-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_experts_finite [hPre_experts_finite : Cert.Pre_experts_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_experts_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).1 = (fun _ => 1#1)
    ∧ (Cert.Pre_experts_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.1 = (fun _ => 1#1)
    ∧ (Cert.Pre_experts_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.1 = (fun _ => 1#1)
    ∧ (Cert.Pre_experts_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.1 = (fun _ => 1#1)
    ∧ (Cert.Pre_experts_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.1 = (fun _ => 1#1)
    ∧ (Cert.Pre_experts_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_experts_finite [hPre_experts_finite : Cert.Pre_experts_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_experts_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).1 = (fun _ => 1#1)
    ∧ (Cert.Pre_experts_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.1 = (fun _ => 1#1)
    ∧ (Cert.Pre_experts_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.1 = (fun _ => 1#1)
    ∧ (Cert.Pre_experts_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.1 = (fun _ => 1#1)
    ∧ (Cert.Pre_experts_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.1 = (fun _ => 1#1)
    ∧ (Cert.Pre_experts_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_conditioning_finite [hPre_conditioning_finite : Cert.Pre_conditioning_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_conditioning_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).1 = (fun _ => 1#1)
    ∧ (Cert.Pre_conditioning_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_conditioning_finite [hPre_conditioning_finite : Cert.Pre_conditioning_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_conditioning_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).1 = (fun _ => 1#1)
    ∧ (Cert.Pre_conditioning_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_experts_finite [hKernel5Ideal : Cert.Kernel5Ideal.Facts] [hPre_experts_finite : Cert.Pre_experts_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_experts_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_experts_finite [hReference5Ideal : Cert.Reference5Ideal.Facts] [hPre_experts_finite : Cert.Pre_experts_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_experts_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_conditioning_finite [hKernel6Ideal : Cert.Kernel6Ideal.Facts] [hPre_conditioning_finite : Cert.Pre_conditioning_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_conditioning_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_conditioning_finite [hReference6Ideal : Cert.Reference6Ideal.Facts] [hPre_conditioning_finite : Cert.Pre_conditioning_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_conditioning_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v5_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v5_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_v27) = v1 c
          ∧ r.2.mem ((c.tc : Thread Cert.Reference2Ideal.nD Cert.Reference2Ideal.τ).loc Cert.Reference2Ideal.main_v28) = v2 c
          ∧ r.2.mem ((c.tc : Thread Cert.Reference2Ideal.nD Cert.Reference2Ideal.τ).loc Cert.Reference2Ideal.main_v29) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_v32) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_experts_finite [hKernel5Ideal : Cert.Kernel5Ideal.Facts] [hReference5Ideal : Cert.Reference5Ideal.Facts] [hPre_experts_finite : Cert.Pre_experts_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_experts_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal_pre_conditioning_finite [hKernel6Ideal : Cert.Kernel6Ideal.Facts] [hReference6Ideal : Cert.Reference6Ideal.Facts] [hPre_conditioning_finite : Cert.Pre_conditioning_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_conditioning_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_experts_finite : Cert.Pre_experts_finite.Facts) (hPre_conditioning_finite : Cert.Pre_conditioning_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_experts_finite (hKernel5Ideal := hKernel5Ideal) (hPre_experts_finite := hPre_experts_finite)
    ∧ quiescent_Reference5Ideal (hReference5Ideal := hReference5Ideal)
    ∧ quiescent_Reference5Ideal_pre_experts_finite (hReference5Ideal := hReference5Ideal) (hPre_experts_finite := hPre_experts_finite)
    ∧ quiescent_Kernel6 (hKernel6 := hKernel6)
    ∧ quiescent_Kernel6Ideal (hKernel6Ideal := hKernel6Ideal)
    ∧ quiescent_Kernel6Ideal_pre_conditioning_finite (hKernel6Ideal := hKernel6Ideal) (hPre_conditioning_finite := hPre_conditioning_finite)
    ∧ quiescent_Reference6Ideal (hReference6Ideal := hReference6Ideal)
    ∧ quiescent_Reference6Ideal_pre_conditioning_finite (hReference6Ideal := hReference6Ideal) (hPre_conditioning_finite := hPre_conditioning_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_experts_finite (hKernel5Ideal := hKernel5Ideal) (hReference5Ideal := hReference5Ideal) (hPre_experts_finite := hPre_experts_finite)
    ∧ preserves_Kernel6_Kernel6Ideal
    ∧ algebraic_Kernel6Ideal_Reference6Ideal_pre_conditioning_finite (hKernel6Ideal := hKernel6Ideal) (hReference6Ideal := hReference6Ideal) (hPre_conditioning_finite := hPre_conditioning_finite)
-- ==== Pre_conditioning_finite.lean ====
abbrev S8x2048 : Shape := ⟨2, ![8, 2048]⟩
abbrev S2048x12288 : Shape := ⟨2, ![2048, 12288]⟩
abbrev S12288 : Shape := ⟨1, ![12288]⟩
abbrev S_ : Shape := ⟨0, ![]⟩

class Facts : Prop where
  bcast_S_S8x2048 : S_.BroadcastsInDim S8x2048 (![] : Fin 0 → Fin S8x2048.rank)
  bcast_S_S2048x12288 : S_.BroadcastsInDim S2048x12288 (![] : Fin 0 → Fin S2048x12288.rank)

variable [Facts]

def fn {F : FTy → Type} [FloatOps F] (main_arg0 : FVec F S8x2048 .f32) (main_arg1 : FVec F S2048x12288 .f32) (main_arg2 : FVec F S12288 .f32) : IVec S8x2048 1 × IVec S2048x12288 1 :=
  let main_cst : FVec F S_ .f32 := constant S_ .f32 0x7F800000#32
  let main_v0 : FVec F S8x2048 .f32 := broadcastInDim S8x2048 ![] bcast_S_S8x2048 main_cst
  let main_v1 : IVec S8x2048 1 := cmpf .olt main_arg0 main_v0
  let main_v2 : FVec F S2048x12288 .f32 := Host.absf main_arg1
  let main_cst_0 : FVec F S_ .f32 := constant S_ .f32 0x7F800000#32
  let main_v3 : FVec F S2048x12288 .f32 := broadcastInDim S2048x12288 ![] bcast_S_S2048x12288 main_cst_0
  let main_v4 : IVec S2048x12288 1 := cmpf .olt main_v2 main_v3
  (main_v1, main_v4)
-- ==== Pre_experts_finite.lean ====
abbrev S16384x2048 : Shape := ⟨2, ![16384, 2048]⟩
abbrev S8x128x16384 : Shape := ⟨3, ![8, 128, 16384]⟩
abbrev S4x2048 : Shape := ⟨2, ![4, 2048]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)
  bcast_S_S8x128x16384 : S_.BroadcastsInDim S8x128x16384 (![] : Fin 0 → Fin S8x128x16384.rank)
  bcast_S_S4x2048 : S_.BroadcastsInDim S4x2048 (![] : Fin 0 → Fin S4x2048.rank)

variable [Facts]

def fn_part1 {F : FTy → Type} [FloatOps F] (main_v3 : IVec S16384x2048 1) (main_v6 : IVec S16384x2048 1) (main_v9 : IVec S16384x2048 1) (main_v12 : IVec S8x128x16384 1) (main_v15 : IVec S8x128x16384 1) (main_v16 : FVec F S4x2048 .f32) (main_v17 : FVec F S4x2048 .f32) : IVec S16384x2048 1 × IVec S16384x2048 1 × IVec S16384x2048 1 × IVec S8x128x16384 1 × IVec S8x128x16384 1 × IVec S4x2048 1 :=
  let main_v18 : IVec S4x2048 1 := cmpf .olt main_v16 main_v17
  (main_v3, main_v6, main_v9, main_v12, main_v15, main_v18)

def fn {F : FTy → Type} [FloatOps F] (main_arg0 : FVec F S16384x2048 .bf16) (main_arg1 : FVec F S16384x2048 .f32) (main_arg2 : FVec F S16384x2048 .f32) (main_arg3 : FVec F S8x128x16384 .f32) (main_arg4 : FVec F S8x128x16384 .f32) (main_arg5 : FVec F S8x128x16384 .f32) (main_arg6 : FVec F S8x128x16384 .f32) (main_arg7 : FVec F S16384x2048 .f32) (main_arg8 : FVec F S4x2048 .f32) : IVec S16384x2048 1 × IVec S16384x2048 1 × IVec S16384x2048 1 × IVec S8x128x16384 1 × IVec S8x128x16384 1 × IVec S4x2048 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_v7 : FVec F S16384x2048 .f32 := Host.absf main_arg2
  let main_cst_1 : FVec F S_ .f32 := constant S_ .f32 0x7F800000#32
  let main_v8 : FVec F S16384x2048 .f32 := broadcastInDim S16384x2048 ![] bcast_S_S16384x2048 main_cst_1
  let main_v9 : IVec S16384x2048 1 := cmpf .olt main_v7 main_v8
  let main_v10 : FVec F S8x128x16384 .f32 := Host.absf main_arg4
  let main_cst_2 : FVec F S_ .f32 := constant S_ .f32 0x7F800000#32
  let main_v11 : FVec F S8x128x16384 .f32 := broadcastInDim S8x128x16384 ![] bcast_S_S8x128x16384 main_cst_2
  let main_v12 : IVec S8x128x16384 1 := cmpf .olt main_v10 main_v11
  let main_v13 : FVec F S8x128x16384 .f32 := Host.absf main_arg6
  let main_cst_3 : FVec F S_ .f32 := constant S_ .f32 0x7F800000#32
  let main_v14 : FVec F S8x128x16384 .f32 := broadcastInDim S8x128x16384 ![] bcast_S_S8x128x16384 main_cst_3
  let main_v15 : IVec S8x128x16384 1 := cmpf .olt main_v13 main_v14
  let main_v16 : FVec F S4x2048 .f32 := Host.absf main_arg8
  let main_cst_4 : FVec F S_ .f32 := constant S_ .f32 0x7F800000#32
  let main_v17 : FVec F S4x2048 .f32 := broadcastInDim S4x2048 ![] bcast_S_S4x2048 main_cst_4
  fn_part1 (F := F) main_v3 main_v6 main_v9 main_v12 main_v15 main_v16 main_v17
-- ==== Kernel.lean ====
abbrev S16384x1024 : Shape := ⟨2, ![16384, 1024]⟩
abbrev S4x1024 : Shape := ⟨2, ![4, 1024]⟩
abbrev S1024 : Shape := ⟨1, ![1024]⟩
abbrev S8x128x128 : Shape := ⟨3, ![8, 128, 128]⟩
abbrev S1x1024 : Shape := ⟨2, ![1, 1024]⟩
abbrev S256x1024 : Shape := ⟨2, ![256, 1024]⟩
abbrev S264x1024 : Shape := ⟨2, ![264, 1024]⟩
abbrev S8x1024 : Shape := ⟨2, ![8, 1024]⟩
abbrev S256x128 : Shape := ⟨2, ![256, 128]⟩
abbrev S1x128x128 : Shape := ⟨3, ![1, 128, 128]⟩
abbrev S128x128 : Shape := ⟨2, ![128, 128]⟩
abbrev S256x1 : Shape := ⟨2, ![256, 1]⟩
abbrev S256 : Shape := ⟨1, ![256]⟩

abbrev nBuf : Space → Nat
  | .hbm => 18
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S4x1024, .f32⟩
  | .hbm, ⟨3, _⟩ => ⟨S1024, .f32⟩
  | .hbm, ⟨4, _⟩ => ⟨S8x128x128, .f32⟩
  | .hbm, ⟨5, _⟩ => ⟨S1024, .f32⟩
  | .hbm, ⟨6, _⟩ => ⟨S8x128x128, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1x1024, .f32⟩
  | .hbm, ⟨11, _⟩ => ⟨S8x128x128, .bf16⟩
  | .hbm, ⟨12, _⟩ => ⟨S1x1024, .f32⟩
  | .hbm, ⟨13, _⟩ => ⟨S8x128x128, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S4x1024, .f32⟩
  | .local _ .vmem, ⟨5, _⟩ => ⟨S1x1024, .f32⟩
  | .local _ .vmem, ⟨6, _⟩ => ⟨S8x128x128, .bf16⟩
  | .local _ .vmem, ⟨7, _⟩ => ⟨S1x1024, .f32⟩
  | .local _ .vmem, ⟨8, _⟩ => ⟨S8x128x128, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S264x1024, .f32⟩
  | .local _ .vmem, ⟨15, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S16384x1024 : Shape := ⟨2, ![16384, 1024]⟩
abbrev S4x1024 : Shape := ⟨2, ![4, 1024]⟩
abbrev S1024 : Shape := ⟨1, ![1024]⟩
abbrev S8x128x128 : Shape := ⟨3, ![8, 128, 128]⟩
abbrev S4x4096x1024 : Shape := ⟨3, ![4, 4096, 1024]⟩
abbrev S_ : Shape := ⟨0, ![]⟩
abbrev S4x4099x1024 : Shape := ⟨3, ![4, 4099, 1024]⟩
abbrev S1x1024 : Shape := ⟨2, ![1, 1024]⟩
abbrev S1x1x1024 : Shape := ⟨3, ![1, 1, 1024]⟩
abbrev S4x4096x8x128 : Shape := ⟨4, ![4, 4096, 8, 128]⟩
abbrev S8x128x4x4096 : Shape := ⟨4, ![8, 128, 4, 4096]⟩
abbrev S4096x4x1024 : Shape := ⟨3, ![4096, 4, 1024]⟩
abbrev S1x4x1024 : Shape := ⟨3, ![1, 4, 1024]⟩
abbrev S4x4096 : Shape := ⟨2, ![4, 4096]⟩
abbrev S4x4096x1 : Shape := ⟨3, ![4, 4096, 1]⟩

abbrev nBuf : Space → Nat
  | .hbm => 171
  | .vmem => 0
  | .smem => 0
  | _ => 0

abbrev hbmTy0_0 (i : Nat) : BufTy := match i % 128 with
  | 0 => ⟨S16384x1024, .f32⟩
  | 1 => ⟨S16384x1024, .f32⟩
  | 2 => ⟨S4x1024, .f32⟩
  | 3 => ⟨S1024, .f32⟩
  | 4 => ⟨S8x128x128, .f32⟩
  | 5 => ⟨S1024, .f32⟩
  | 6 => ⟨S8x128x128, .f32⟩
  | 7 => ⟨S1024, .f32⟩
  | 8 => ⟨S1024, .f32⟩
  | 9 => ⟨S1024, .f32⟩
  | 10 => ⟨S4x4096x1024, .f32⟩
  | 11 => ⟨S_, .i32⟩
  | 12 => ⟨S_, .f32⟩
  | 13 => ⟨S4x4099x1024, .f32⟩
  | 14 => ⟨S1x1024, .f32⟩
  | 15 => ⟨S1024, .f32⟩
  | 16 => ⟨S4x4096x1024, .f32⟩
  | 17 => ⟨S1x1x1024, .f32⟩
  | 18 => ⟨S4x4096x1024, .f32⟩
  | 19 => ⟨S4x4096x1024, .f32⟩
  | 20 => ⟨S1x1x1024, .f32⟩
  | 21 => ⟨S4x4096x1024, .f32⟩
  | 22 => ⟨S4x4096x1024, .f32⟩
  | 23 => ⟨S1x1024, .f32⟩
  | 24 => ⟨S1024, .f32⟩
  | 25 => ⟨S4x4096x1024, .f32⟩
  | 26 => ⟨S1x1x1024, .f32⟩
  | 27 => ⟨S4x4096x1024, .f32⟩
  | 28 => ⟨S4x4096x1024, .f32⟩
  | 29 => ⟨S4x4096x1024, .f32⟩
  | 30 => ⟨S1x1024, .f32⟩
  | 31 => ⟨S1024, .f32⟩
  | 32 => ⟨S4x4096x1024, .f32⟩
  | 33 => ⟨S1x1x1024, .f32⟩
  | 34 => ⟨S4x4096x1024, .f32⟩
  | 35 => ⟨S4x4096x1024, .f32⟩
  | 36 => ⟨S4x4096x1024, .f32⟩
  | 37 => ⟨S1x1024, .f32⟩
  | 38 => ⟨S1024, .f32⟩
  | 39 => ⟨S4x4096x1024, .f32⟩
  | 40 => ⟨S1x1x1024, .f32⟩
  | 41 => ⟨S4x4096x1024, .f32⟩
  | 42 => ⟨S4x4096x1024, .f32⟩
  | 43 => ⟨S4x4096x1024, .f32⟩
  | 44 => ⟨S4x4096x8x128, .f32⟩
  | 45 => ⟨S8x128x4x4096, .f32⟩
  | 46 => ⟨S4x4096x8x128, .f32⟩
  | 47 => ⟨S4x4096x1024, .f32⟩
  | 48 => ⟨S1x1x1024, .f32⟩
  | 49 => ⟨S4x4096x1024, .f32⟩
  | 50 => ⟨S4x4096x1024, .f32⟩
  | 51 => ⟨S4x4096x1024, .f32⟩
  | 52 => ⟨S4x4096x1024, .f32⟩
  | 53 => ⟨S_, .f32⟩
  | 54 => ⟨S4x4096x1024, .f32⟩
  | 55 => ⟨S4x4096x1024, .f32⟩
  | 56 => ⟨S_, .f32⟩
  | 57 => ⟨S4x4096x1024, .f32⟩
  | 58 => ⟨S4x4096x1024, .f32⟩
  | 59 => ⟨S8x128x4x4096, .f32⟩
  | 60 => ⟨S4x4096x8x128, .f32⟩
  | 61 => ⟨S4x4096x1024, .f32⟩
  | 62 => ⟨S1x1x1024, .f32⟩
  | 63 => ⟨S4x4096x1024, .f32⟩
  | 64 => ⟨S4x4096x1024, .f32⟩
  | 65 => ⟨S4x4096x1024, .f32⟩
  | 66 => ⟨S4x4096x1024, .f32⟩
  | 67 => ⟨S_, .f32⟩
  | 68 => ⟨S4x4096x1024, .f32⟩
  | 69 => ⟨S4x4096x1024, .f32⟩
  | 70 => ⟨S_, .f32⟩
  | 71 => ⟨S4x4096x1024, .f32⟩
  | 72 => ⟨S4x4096x1024, .f32⟩
  | 73 => ⟨S_, .f32⟩
  | 74 => ⟨S4x4096x1024, .f32⟩
  | 75 => ⟨S4x4096x1024, .f32⟩
  | 76 => ⟨S1024, .f32⟩
  | 77 => ⟨S_, .f32⟩
  | 78 => ⟨S1024, .f32⟩
  | 79 => ⟨S1024, .f32⟩
  | 80 => ⟨S1024, .f32⟩
  | 81 => ⟨S1024, .f32⟩
  | 82 => ⟨S1024, .i1⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1024, .f32⟩
  | 90 => ⟨S1024, .f32⟩
  | 91 => ⟨S1x1x1024, .f32⟩
  | 92 => ⟨S4x4096x1024, .f32⟩
  | 93 => ⟨S4x4096x1024, .f32⟩
  | 94 => ⟨S4x4096x1024, .f32⟩
  | 95 => ⟨S_, .f32⟩
  | 96 => ⟨S4x4096x1024, .f32⟩
  | 97 => ⟨S4x4096x1024, .f32⟩
  | 98 => ⟨S4x4096x1024, .f32⟩
  | 99 => ⟨S4x4096x1024, .f32⟩
  | 100 => ⟨S4x4096x1024, .f32⟩
  | 101 => ⟨S4x4096x1024, .f32⟩
  | 102 => ⟨S4x4096x1024, .f32⟩
  | 103 => ⟨S_, .f32⟩
  | 104 => ⟨S4x1024, .f32⟩
  | 105 => ⟨S4096x4x1024, .f32⟩
  | 106 => ⟨S4096x4x1024, .f32⟩
  | 107 => ⟨S_, .f32⟩
  | 108 => ⟨S4096x4x1024, .f32⟩
  | 109 => ⟨S_, .i32⟩
  | 110 => ⟨S4096x4x1024, .f32⟩
  | 111 => ⟨S4096x4x1024, .f32⟩
  | 112 => ⟨S_, .i32⟩
  | 113 => ⟨S4x1024, .f32⟩
  | 114 => ⟨S4096x4x1024, .f32⟩
  | 115 => ⟨S_, .i32⟩
  | 116 => ⟨S_, .i1⟩
  | 117 => ⟨S_, .i32⟩
  | 118 => ⟨S_, .i32⟩
  | 119 => ⟨S1x4x1024, .f32⟩
  | 120 => ⟨S4x1024, .f32⟩
  | 121 => ⟨S_, .i32⟩
  | 122 => ⟨S_, .i32⟩
  | 123 => ⟨S1x4x1024, .f32⟩
  | 124 => ⟨S4x1024, .f32⟩
  | 125 => ⟨S4x1024, .f32⟩
  | 126 => ⟨S4x1024, .f32⟩
  | 127 => ⟨S1x4x1024, .f32⟩
  | _ => ⟨S16384x1024, .f32⟩

abbrev hbmTy0_1 (i : Nat) : BufTy := match i % 128 with
  | 0 => ⟨S_, .i32⟩
  | 1 => ⟨S_, .i32⟩
  | 2 => ⟨S4096x4x1024, .f32⟩
  | 3 => ⟨S_, .i32⟩
  | 4 => ⟨S_, .i32⟩
  | 5 => ⟨S4x4096x1024, .f32⟩
  | 6 => ⟨S4x4096x1024, .f32⟩
  | 7 => ⟨S4x4096x1024, .f32⟩
  | 8 => ⟨S4x4096x1024, .f32⟩
  | 9 => ⟨S_, .f32⟩
  | 10 => ⟨S4x4096x1024, .f32⟩
  | 11 => ⟨S4x4096x1024, .f32⟩
  | 12 => ⟨S4x4096x1024, .f32⟩
  | 13 => ⟨S_, .f32⟩
  | 14 => ⟨S4x4096x1024, .f32⟩
  | 15 => ⟨S4x4096x1024, .f32⟩
  | 16 => ⟨S4x4096x1024, .f32⟩
  | 17 => ⟨S_, .f32⟩
  | 18 => ⟨S4x4096x1024, .f32⟩
  | 19 => ⟨S4x4096x1024, .f32⟩
  | 20 => ⟨S_, .f32⟩
  | 21 => ⟨S4x4096x1024, .f32⟩
  | 22 => ⟨S4x4096x1024, .f32⟩
  | 23 => ⟨S4x4096x1024, .f32⟩
  | 24 => ⟨S4x4096x1024, .f32⟩
  | 25 => ⟨S4x4096x1024, .f32⟩
  | 26 => ⟨S_, .f32⟩
  | 27 => ⟨S4x4096, .f32⟩
  | 28 => ⟨S4x4096x1, .f32⟩
  | 29 => ⟨S_, .f32⟩
  | 30 => ⟨S4x4096x1, .f32⟩
  | 31 => ⟨S4x4096x1, .f32⟩
  | 32 => ⟨S_, .f32⟩
  | 33 => ⟨S4x4096x1, .f32⟩
  | 34 => ⟨S4x4096x1, .f32⟩
  | 35 => ⟨S4x4096x1, .f32⟩
  | 36 => ⟨S4x4096x1024, .f32⟩
  | 37 => ⟨S4x4096x1024, .f32⟩
  | 38 => ⟨S1x1x1024, .f32⟩
  | 39 => ⟨S4x4096x1024, .f32⟩
  | 40 => ⟨S4x4096x1024, .f32⟩
  | 41 => ⟨S16384x1024, .f32⟩
  | 42 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst : Ref sig .tc := ⟨.hbm, 53, rfl⟩
abbrev main_v41 : Ref sig .tc := ⟨.hbm, 54, rfl⟩
abbrev main_v42 : Ref sig .tc := ⟨.hbm, 55, rfl⟩
abbrev main_cst_0 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_1 : Ref sig .tc := ⟨.hbm, 67, rfl⟩
abbrev main_v53 : Ref sig .tc := ⟨.hbm, 68, rfl⟩
abbrev main_v54 : Ref sig .tc := ⟨.hbm, 69, rfl⟩
abbrev main_cst_2 : Ref sig .tc := ⟨.hbm, 70, rfl⟩
abbrev main_v55 : Ref sig .tc := ⟨.hbm, 71, rfl⟩
abbrev main_v56 : Ref sig .tc := ⟨.hbm, 72, rfl⟩
abbrev main_cst_3 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_call1_cst : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_v6 : Ref sig .tc := ⟨.hbm, 84, rfl⟩
abbrev main_call1_v7 : Ref sig .tc := ⟨.hbm, 85, rfl⟩
abbrev main_call1_v8 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_4 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_5 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_6 : Ref sig .tc := ⟨.hbm, 107, rfl⟩
abbrev main_v75 : Ref sig .tc := ⟨.hbm, 108, rfl⟩
abbrev main_c_7 : Ref sig .tc := ⟨.hbm, 109, rfl⟩
abbrev main_v76_0 : Ref sig .tc := ⟨.hbm, 110, rfl⟩
abbrev main_v76_1 : Ref sig .tc := ⟨.hbm, 111, rfl⟩
abbrev main_v76_2 : Ref sig .tc := ⟨.hbm, 112, rfl⟩
abbrev main_v76_3 : Ref sig .tc := ⟨.hbm, 113, rfl⟩
abbrev main_v76_4 : Ref sig .tc := ⟨.hbm, 114, rfl⟩
abbrev main_while0c_c_19 : Ref sig .tc := ⟨.hbm, 115, rfl⟩
abbrev main_while0c_v108 : Ref sig .tc := ⟨.hbm, 116, rfl⟩
abbrev main_while0b_call2_c : Ref sig .tc := ⟨.hbm, 117, rfl⟩
abbrev main_while0b_call2_c_0 : Ref sig .tc := ⟨.hbm, 118, rfl⟩
abbrev main_while0b_call2_v0 : Ref sig .tc := ⟨.hbm, 119, rfl⟩
abbrev main_while0b_v108 : Ref sig .tc := ⟨.hbm, 120, rfl⟩
abbrev main_while0b_call3_c : Ref sig .tc := ⟨.hbm, 121, rfl⟩
abbrev main_while0b_call3_c_0 : Ref sig .tc := ⟨.hbm, 122, rfl⟩
abbrev main_while0b_call3_v0 : Ref sig .tc := ⟨.hbm, 123, rfl⟩
abbrev main_while0b_v109 : Ref sig .tc := ⟨.hbm, 124, rfl⟩
abbrev main_while0b_v110 : Ref sig .tc := ⟨.hbm, 125, rfl⟩
abbrev main_while0b_v111 : Ref sig .tc := ⟨.hbm, 126, rfl⟩
abbrev main_while0b_call4_v0 : Ref sig .tc := ⟨.hbm, 127, rfl⟩
abbrev main_while0b_call4_c : Ref sig .tc := ⟨.hbm, 128, rfl⟩
abbrev main_while0b_call4_c_0 : Ref sig .tc := ⟨.hbm, 129, rfl⟩
abbrev main_while0b_v112 : Ref sig .tc := ⟨.hbm, 130, rfl⟩
abbrev main_while0b_c_19 : Ref sig .tc := ⟨.hbm, 131, rfl⟩
abbrev main_while0b_v113 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_cst_8 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_cst_9 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_cst_10 : Ref sig .tc := ⟨.hbm, 145, rfl⟩
abbrev main_v87 : Ref sig .tc := ⟨.hbm, 146, rfl⟩
abbrev main_v88 : Ref sig .tc := ⟨.hbm, 147, rfl⟩
abbrev main_cst_11 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_cst_12 : Ref sig .tc := ⟨.hbm, 154, rfl⟩
abbrev main_v94 : Ref sig .tc := ⟨.hbm, 155, rfl⟩
abbrev main_v95 : Ref sig .tc := ⟨.hbm, 156, rfl⟩
abbrev main_cst_13 : Ref sig .tc := ⟨.hbm, 157, rfl⟩
abbrev main_v96 : Ref sig .tc := ⟨.hbm, 158, rfl⟩
abbrev main_v97 : Ref sig .tc := ⟨.hbm, 159, rfl⟩
abbrev main_cst_14 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S4x4096x2048 : Shape := ⟨3, ![4, 4096, 2048]⟩
abbrev S2048 : Shape := ⟨1, ![2048]⟩
abbrev S4x2048 : Shape := ⟨2, ![4, 2048]⟩
abbrev S2048x3328 : Shape := ⟨2, ![2048, 3328]⟩
abbrev S16384x2048 : Shape := ⟨2, ![16384, 2048]⟩
abbrev S1x2048 : Shape := ⟨2, ![1, 2048]⟩
abbrev S4x1x2048 : Shape := ⟨3, ![4, 1, 2048]⟩
abbrev S16384x1024 : Shape := ⟨2, ![16384, 1024]⟩
abbrev S16384x256 : Shape := ⟨2, ![16384, 256]⟩
abbrev S256x2048 : Shape := ⟨2, ![256, 2048]⟩
abbrev S1x1x2048 : Shape := ⟨3, ![1, 1, 2048]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S2048x1024 : Shape := ⟨2, ![2048, 1024]⟩
abbrev S2048x256 : Shape := ⟨2, ![2048, 256]⟩

abbrev nBuf : Space → Nat
  | .hbm => 14
  | .vmem => 16
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x3328, .f32⟩
  | .hbm, ⟨5, _⟩ => ⟨S16384x2048, .f32⟩
  | .hbm, ⟨6, _⟩ => ⟨S1x2048, .f32⟩
  | .hbm, ⟨7, _⟩ => ⟨S4x1x2048, .f32⟩
  | .hbm, ⟨8, _⟩ => ⟨S4x1x2048, .f32⟩
  | .hbm, ⟨9, _⟩ => ⟨S2048x3328, .bf16⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x256, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x3328, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x256, .f32⟩
  | .local _ .vmem, ⟨15, _⟩ => ⟨S256x256, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x3328 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S4x4096x2048 : Shape := ⟨3, ![4, 4096, 2048]⟩
abbrev S2048 : Shape := ⟨1, ![2048]⟩
abbrev S4x2048 : Shape := ⟨2, ![4, 2048]⟩
abbrev S2048x3328 : Shape := ⟨2, ![2048, 3328]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S4x4096x3328 : Shape := ⟨3, ![4, 4096, 3328]⟩
abbrev S4x4096x1024 : Shape := ⟨3, ![4, 4096, 1024]⟩
abbrev S4x4096x256 : Shape := ⟨3, ![4, 4096, 256]⟩
abbrev S16384x1024 : Shape := ⟨2, ![16384, 1024]⟩
abbrev S16384x256 : Shape := ⟨2, ![16384, 256]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x3328, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S4x1x2048, .f32⟩
  | .hbm, ⟨22, _⟩ => ⟨S_, .f32⟩
  | .hbm, ⟨23, _⟩ => ⟨S4x1x2048, .f32⟩
  | .hbm, ⟨24, _⟩ => ⟨S4x1x2048, .f32⟩
  | .hbm, ⟨25, _⟩ => ⟨S4x4096x2048, .f32⟩
  | .hbm, ⟨26, _⟩ => ⟨S4x4096x2048, .f32⟩
  | .hbm, ⟨27, _⟩ => ⟨S4x1x2048, .f32⟩
  | .hbm, ⟨28, _⟩ => ⟨S4x4096x2048, .f32⟩
  | .hbm, ⟨29, _⟩ => ⟨S4x4096x2048, .f32⟩
  | .hbm, ⟨30, _⟩ => ⟨S4x4096x3328, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x256, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x256, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Kernel3.lean ====
abbrev S16384x1024 : Shape := ⟨2, ![16384, 1024]⟩
abbrev S4x4096x2048 : Shape := ⟨3, ![4, 4096, 2048]⟩
abbrev S2048x2048 : Shape := ⟨2, ![2048, 2048]⟩
abbrev S4x2048 : Shape := ⟨2, ![4, 2048]⟩
abbrev S2048 : Shape := ⟨1, ![2048]⟩
abbrev S16384x2048 : Shape := ⟨2, ![16384, 2048]⟩
abbrev S4x1x2048 : Shape := ⟨3, ![4, 1, 2048]⟩
abbrev S1x2048 : Shape := ⟨2, ![1, 2048]⟩
abbrev S256x1024 : Shape := ⟨2, ![256, 1024]⟩
abbrev S256x2048 : Shape := ⟨2, ![256, 2048]⟩
abbrev S1x1x2048 : Shape := ⟨3, ![1, 1, 2048]⟩
abbrev S1024x2048 : Shape := ⟨2, ![1024, 2048]⟩
abbrev S256 : Shape := ⟨1, ![256]⟩
abbrev S256x1 : Shape := ⟨2, ![256, 1]⟩

abbrev nBuf : Space → Nat
  | .hbm => 16
  | .vmem => 18
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S4x4096x2048, .f32⟩
  | .hbm, ⟨3, _⟩ => ⟨S2048x2048, .f32⟩
  | .hbm, ⟨4, _⟩ => ⟨S4x2048, .f32⟩
  | .hbm, ⟨5, _⟩ => ⟨S2048, .f32⟩
  | .hbm, ⟨6, _⟩ => ⟨S4x2048, .f32⟩
  | .hbm, ⟨7, _⟩ => ⟨S4x2048, .f32⟩
  | .hbm, ⟨8, _⟩ => ⟨S16384x2048, .f32⟩
  | .hbm, ⟨9, _⟩ => ⟨S2048x2048, .bf16⟩
  | .hbm, ⟨10, _⟩ => ⟨S4x1x2048, .f32⟩
  | .hbm, ⟨11, _⟩ => ⟨S1x2048, .f32⟩
  | .hbm, ⟨12, _⟩ => ⟨S4x1x2048, .f32⟩
  | .hbm, ⟨13, _⟩ => ⟨S4x1x2048, .f32⟩
  | .hbm, ⟨14, _⟩ => ⟨S16384x2048, .f32⟩
  | .hbm, ⟨15, _⟩ => ⟨S16384x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S2048x2048, .bf16⟩
  | .local _ .vmem, ⟨7, _⟩ => ⟨S1x1x2048, .f32⟩
  | .local _ .vmem, ⟨8, _⟩ => ⟨S1x1x2048, .f32⟩
  | .local _ .vmem, ⟨9, _⟩ => ⟨S1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16384x1024 : Shape := ⟨2, ![16384, 1024]⟩
abbrev S4x4096x2048 : Shape := ⟨3, ![4, 4096, 2048]⟩
abbrev S2048x2048 : Shape := ⟨2, ![2048, 2048]⟩
abbrev S4x2048 : Shape := ⟨2, ![4, 2048]⟩
abbrev S2048 : Shape := ⟨1, ![2048]⟩
abbrev S16384x2048 : Shape := ⟨2, ![16384, 2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S4x4096x2048, .f32⟩
  | .hbm, ⟨3, _⟩ => ⟨S2048x2048, .f32⟩
  | .hbm, ⟨4, _⟩ => ⟨S4x2048, .f32⟩
  | .hbm, ⟨5, _⟩ => ⟨S2048, .f32⟩
  | .hbm, ⟨6, _⟩ => ⟨S4x2048, .f32⟩
  | .hbm, ⟨7, _⟩ => ⟨S4x2048, .f32⟩
  | .hbm, ⟨8, _⟩ => ⟨S16384x1024, .f32⟩
  | .hbm, ⟨9, _⟩ => ⟨S16384x1024, .f32⟩
  | .hbm, ⟨10, _⟩ => ⟨S16384x2048, .f32⟩
  | .hbm, ⟨11, _⟩ => ⟨S4x4096x2048, .f32⟩
  | .hbm, ⟨12, _⟩ => ⟨S4x1x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x2048, .f32⟩
  | .hbm, ⟨29, _⟩ => ⟨S4x4096x2048, .f32⟩
  | .hbm, ⟨30, _⟩ => ⟨S1x1x2048, .f32⟩
  | .hbm, ⟨31, _⟩ => ⟨S4x4096x2048, .f32⟩
  | .hbm, ⟨32, _⟩ => ⟨S4x4096x2048, .f32⟩
  | .hbm, ⟨33, _⟩ => ⟨S4x1x2048, .f32⟩
  | .hbm, ⟨34, _⟩ => ⟨S_, .f32⟩
  | .hbm, ⟨35, _⟩ => ⟨S4x1x2048, .f32⟩
  | .hbm, ⟨36, _⟩ => ⟨S4x1x2048, .f32⟩
  | .hbm, ⟨37, _⟩ => ⟨S4x4096x2048, .f32⟩
  | .hbm, ⟨38, _⟩ => ⟨S4x4096x2048, .f32⟩
  | .hbm, ⟨39, _⟩ => ⟨S4x1x2048, .f32⟩
  | .hbm, ⟨40, _⟩ => ⟨S4x4096x2048, .f32⟩
  | .hbm, ⟨41, _⟩ => ⟨S4x4096x2048, .f32⟩
  | .hbm, ⟨42, _⟩ => ⟨S16384x2048, .f32⟩
  | .hbm, ⟨43, _⟩ => ⟨S16384x2048, .f32⟩
  | .hbm, ⟨44, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel4.lean ====
abbrev S16384x2048 : Shape := ⟨2, ![16384, 2048]⟩
abbrev S2048x2048 : Shape := ⟨2, ![2048, 2048]⟩
abbrev S8x2x128x128 : Shape := ⟨4, ![8, 2, 128, 128]⟩
abbrev S2048x8x256 : Shape := ⟨3, ![2048, 8, 256]⟩
abbrev S8x2048x256 : Shape := ⟨3, ![8, 2048, 256]⟩
abbrev S8x128x16384 : Shape := ⟨3, ![8, 128, 16384]⟩
abbrev S256x2048 : Shape := ⟨2, ![256, 2048]⟩
abbrev S8x128x256 : Shape := ⟨3, ![8, 128, 256]⟩
abbrev S1x2048x256 : Shape := ⟨3, ![1, 2048, 256]⟩
abbrev S2048x256 : Shape := ⟨2, ![2048, 256]⟩
abbrev S256x256 : Shape := ⟨2, ![256, 256]⟩
abbrev S1x1x128x128 : Shape := ⟨4, ![1, 1, 128, 128]⟩
abbrev S128x128 : Shape := ⟨2, ![128, 128]⟩
abbrev S256x128 : Shape := ⟨2, ![256, 128]⟩
abbrev S128x256 : Shape := ⟨2, ![128, 256]⟩
abbrev S128 : Shape := ⟨1, ![128]⟩
abbrev S1x128 : Shape := ⟨2, ![1, 128]⟩
abbrev S16x128 : Shape := ⟨2, ![16, 128]⟩
abbrev S8x1 : Shape := ⟨2, ![8, 1]⟩
abbrev S8x128 : Shape := ⟨2, ![8, 128]⟩
abbrev S80x128 : Shape := ⟨2, ![80, 128]⟩
abbrev S1x128x128 : Shape := ⟨3, ![1, 128, 128]⟩

abbrev nBuf : Space → Nat
  | .hbm => 11
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S8x2x128x128, .f32⟩
  | .hbm, ⟨3, _⟩ => ⟨S2048x2048, .bf16⟩
  | .hbm, ⟨4, _⟩ => ⟨S2048x8x256, .bf16⟩
  | .hbm, ⟨5, _⟩ => ⟨S8x2048x256, .bf16⟩
  | .hbm, ⟨6, _⟩ => ⟨S8x2x128x128, .bf16⟩
  | .hbm, ⟨7, _⟩ => ⟨S8x128x16384, .f32⟩
  | .hbm, ⟨8, _⟩ => ⟨S8x128x16384, .f32⟩
  | .hbm, ⟨9, _⟩ => ⟨S8x128x16384, .f32⟩
  | .hbm, ⟨10, _⟩ => ⟨S8x128x16384, .f32⟩
  | .local _ .vmem, ⟨0, _⟩ => ⟨S256x2048, .bf16⟩
  | .local _ .vmem, ⟨1, _⟩ => ⟨S256x2048, .bf16⟩
  | .local _ .vmem, ⟨2, _⟩ => ⟨S8x2048x256, .bf16⟩
  | .local _ .vmem, ⟨3, _⟩ => ⟨S8x2x128x128, .bf16⟩
  | .local _ .vmem, ⟨4, _⟩ => ⟨S8x128x256, .f32⟩
  | .local _ .vmem, ⟨5, _⟩ => ⟨S8x128x256, .f32⟩
  | .local _ .vmem, ⟨6, _⟩ => ⟨S8x128x256, .f32⟩
  | .local _ .vmem, ⟨7, _⟩ => ⟨S8x128x256, .f32⟩
  | .local _ .vmem, ⟨8, _⟩ => ⟨S8x128x256, .f32⟩
  | .local _ .vmem, ⟨9, _⟩ => ⟨S8x128x256, .f32⟩
  | .local _ .vmem, ⟨10, _⟩ => ⟨S8x128x256, .f32⟩
  | .local _ .vmem, ⟨11, _⟩ => ⟨S8x128x256, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg8 : BitVec 32 := Scf.iv c0_i32 c1_i32 k0_t1
  let v2 : Index := Scalar.indexCast arg8
  let c0_2 : Index := 0#32
  let c0_3 : Index := 0#32
  ![v2.toNat, 0, 0]
def k0_off2 (k0_t1 : Fin k0_t1_loop.trips) : Fin 4 → Nat :=
  let c0_i32 : BitVec 32 := 0#32
  let c1_i32 : BitVec 32 := 1#32
  let arg8 : BitVec 32 := Scf.iv c0_i32 c1_i32 k0_t1
  let v6 : Index := Scalar.indexCast arg8
  let c0_4 : Index := 0#32
  let c0_5 : Index := 0#32
  let c0_6 : Index := 0#32
  ![v6.toNat, 0, 0, 0]
def k0_off3 (k0_t1 : Fin k0_t1_loop.trips) : Fin 4 → Nat :=
  let c0_i32 : BitVec 32 := 0#32
  let c1_i32 : BitVec 32 := 1#32
  let arg8 : BitVec 32 := Scf.iv c0_i32 c1_i32 k0_t1
  let v12 : Index := Scalar.indexCast arg8
  let c1 : Index := 1#32
  let c0_8 : Index := 0#32
  let c0_9 : Index := 0#32
  ![v12.toNat, 1, 0, 0]
def k0_off4 (k0_t1 : Fin k0_t1_loop.trips) : Fin 3 → Nat :=
  let c0_i32 : BitVec 32 := 0#32
  let c1_i32 : BitVec 32 := 1#32
  let arg8 : BitVec 32 := Scf.iv c0_i32 c1_i32 k0_t1
  let v898 : Index := Scalar.indexCast arg8
  let c0_288 : Index := 0#32
  let c0_289 : Index := 0#32
  ![v898.toNat, 0, 0]
def k0_off5 (k0_t1 : Fin k0_t1_loop.trips) : Fin 3 → Nat :=
  let c0_i32 : BitVec 32 := 0#32
  let c1_i32 : BitVec 32 := 1#32
  let arg8 : BitVec 32 := Scf.iv c0_i32 c1_i32 k0_t1
  let v1794 : Index := Scalar.indexCast arg8
  let c0_577 : Index := 0#32
  let c128 : Index := 128#32
  ![v1794.toNat, 0, 128]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S16384x2048 : Shape := ⟨2, ![16384, 2048]⟩
abbrev S2048x2048 : Shape := ⟨2, ![2048, 2048]⟩
abbrev S8x2x128x128 : Shape := ⟨4, ![8, 2, 128, 128]⟩
abbrev S16384x8x2x128 : Shape := ⟨4, ![16384, 8, 2, 128]⟩
abbrev S8x2x128x16384 : Shape := ⟨4, ![8, 2, 128, 16384]⟩
abbrev S16384x8x1x128 : Shape := ⟨4, ![16384, 8, 1, 128]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S8x128x16384 : Shape := ⟨3, ![8, 128, 16384]⟩

abbrev nBuf : Space → Nat
  | .hbm => 17
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S8x2x128x128, .f32⟩
  | .hbm, ⟨3, _⟩ => ⟨S16384x2048, .f32⟩
  | .hbm, ⟨4, _⟩ => ⟨S16384x2048, .f32⟩
  | .hbm, ⟨5, _⟩ => ⟨S16384x8x2x128, .f32⟩
  | .hbm, ⟨6, _⟩ => ⟨S8x2x128x16384, .f32⟩
  | .hbm, ⟨7, _⟩ => ⟨S16384x8x2x128, .f32⟩
  | .hbm, ⟨8, _⟩ => ⟨S16384x8x1x128, .f32⟩
  | .hbm, ⟨9, _⟩ => ⟨S16384x8x128, .f32⟩
  | .hbm, ⟨10, _⟩ => ⟨S_, .f32⟩
  | .hbm, ⟨11, _⟩ => ⟨S16384x8, .f32⟩
  | .hbm, ⟨12, _⟩ => ⟨S16384x8x1, .f32⟩
  | .hbm, ⟨13, _⟩ => ⟨S16384x8x128, .f32⟩
  | .hbm, ⟨14, _⟩ => ⟨S16384x8x128, .f32⟩
  | .hbm, ⟨15, _⟩ => ⟨S16384x8x128, .f32⟩
  | .hbm, ⟨16, _⟩ => ⟨S8x128x16384, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel5.lean ====
abbrev S16384x2048 : Shape := ⟨2, ![16384, 2048]⟩
abbrev S8x128x16384 : Shape := ⟨3, ![8, 128, 16384]⟩
abbrev S4x2048 : Shape := ⟨2, ![4, 2048]⟩
abbrev S4x1x2048 : Shape := ⟨3, ![4, 1, 2048]⟩
abbrev S512x2048 : Shape := ⟨2, ![512, 2048]⟩
abbrev S1024x2048 : Shape := ⟨2, ![1024, 2048]⟩
abbrev S8x8x512 : Shape := ⟨3, ![8, 8, 512]⟩
abbrev S8x128x512 : Shape := ⟨3, ![8, 128, 512]⟩
abbrev S1x1x2048 : Shape := ⟨3, ![1, 1, 2048]⟩
abbrev S1024x512 : Shape := ⟨2, ![1024, 512]⟩
abbrev S128x128 : Shape := ⟨2, ![128, 128]⟩
abbrev S1x1x128 : Shape := ⟨3, ![1, 1, 128]⟩
abbrev S1x128 : Shape := ⟨2, ![1, 128]⟩
abbrev S1x128x128 : Shape := ⟨3, ![1, 128, 128]⟩
abbrev S128x512 : Shape := ⟨2, ![128, 512]⟩
abbrev S1x2048 : Shape := ⟨2, ![1, 2048]⟩
abbrev S512x1024 : Shape := ⟨2, ![512, 1024]⟩

abbrev nBuf : Space → Nat
  | .hbm => 13
  | .vmem => 20
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S16384x2048, .f32⟩
  | .hbm, ⟨3, _⟩ => ⟨S8x128x16384, .f32⟩
  | .hbm, ⟨4, _⟩ => ⟨S8x128x16384, .f32⟩
  | .hbm, ⟨5, _⟩ => ⟨S8x128x16384, .f32⟩
  | .hbm, ⟨6, _⟩ => ⟨S8x128x16384, .f32⟩
  | .hbm, ⟨7, _⟩ => ⟨S16384x2048, .f32⟩
  | .hbm, ⟨8, _⟩ => ⟨S4x2048, .f32⟩
  | .hbm, ⟨9, _⟩ => ⟨S16384x2048, .bf16⟩
  | .hbm, ⟨10, _⟩ => ⟨S16384x2048, .bf16⟩
  | .hbm, ⟨11, _⟩ => ⟨S4x1x2048, .f32⟩
  | .hbm, ⟨12, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S8x8x512, .f32⟩
  | .local _ .vmem, ⟨7, _⟩ => ⟨S8x8x512, .f32⟩
  | .local _ .vmem, ⟨8, _⟩ => ⟨S8x8x512, .f32⟩
  | .local _ .vmem, ⟨9, _⟩ => ⟨S8x8x512, .f32⟩
  | .local _ .vmem, ⟨10, _⟩ => ⟨S8x128x512, .f32⟩
  | .local _ .vmem, ⟨11, _⟩ => ⟨S8x128x512, .f32⟩
  | .local _ .vmem, ⟨12, _⟩ => ⟨S8x128x512, .f32⟩
  | .local _ .vmem, ⟨13, _⟩ => ⟨S8x128x512, .f32⟩
  | .local _ .vmem, ⟨14, _⟩ => ⟨S512x2048, .f32⟩
  | .local _ .vmem, ⟨15, _⟩ => ⟨S512x2048, .f32⟩
  | .local _ .vmem, ⟨16, _⟩ => ⟨S1x1x2048, .f32⟩
  | .local _ .vmem, ⟨17, _⟩ => ⟨S1x1x2048, .f32⟩
  | .local _ .vmem, ⟨18, _⟩ => ⟨S512x2048, .f32⟩
  | .local _ .vmem, ⟨19, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference5Ideal.lean ====
abbrev S16384x2048 : Shape := ⟨2, ![16384, 2048]⟩
abbrev S8x128x16384 : Shape := ⟨3, ![8, 128, 16384]⟩
abbrev S4x2048 : Shape := ⟨2, ![4, 2048]⟩
abbrev S2048x16384 : Shape := ⟨2, ![2048, 16384]⟩
abbrev S16384x16384 : Shape := ⟨2, ![16384, 16384]⟩
abbrev S_ : Shape := ⟨0, ![]⟩
abbrev S8x128x1x16384 : Shape := ⟨4, ![8, 128, 1, 16384]⟩
abbrev S8x1x128x16384 : Shape := ⟨4, ![8, 1, 128, 16384]⟩
abbrev S8x128x128x16384 : Shape := ⟨4, ![8, 128, 128, 16384]⟩
abbrev S128x128x16384 : Shape := ⟨3, ![128, 128, 16384]⟩
abbrev S4x4096x2048 : Shape := ⟨3, ![4, 4096, 2048]⟩
abbrev S4x1x2048 : Shape := ⟨3, ![4, 1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S16384x2048, .f32⟩
  | .hbm, ⟨3, _⟩ => ⟨S8x128x16384, .f32⟩
  | .hbm, ⟨4, _⟩ => ⟨S8x128x16384, .f32⟩
  | .hbm, ⟨5, _⟩ => ⟨S8x128x16384, .f32⟩
  | .hbm, ⟨6, _⟩ => ⟨S8x128x16384, .f32⟩
  | .hbm, ⟨7, _⟩ => ⟨S16384x2048, .f32⟩
  | .hbm, ⟨8, _⟩ => ⟨S4x2048, .f32⟩
  | .hbm, ⟨9, _⟩ => ⟨S16384x2048, .f32⟩
  | .hbm, ⟨10, _⟩ => ⟨S2048x16384, .f32⟩
  | .hbm, ⟨11, _⟩ => ⟨S16384x16384, .f32⟩
  | .hbm, ⟨12, _⟩ => ⟨S16384x16384, .f32⟩
  | .hbm, ⟨13, _⟩ => ⟨S16384x16384, .f32⟩
  | .hbm, ⟨14, _⟩ => ⟨S_, .f32⟩
  | .hbm, ⟨15, _⟩ => ⟨S16384x16384, .f32⟩
  | .hbm, ⟨16, _⟩ => ⟨S16384x16384, .f32⟩
  | .hbm, ⟨17, _⟩ => ⟨S16384x16384, .f32⟩
  | .hbm, ⟨18, _⟩ => ⟨S_, .f32⟩
  | .hbm, ⟨19, _⟩ => ⟨S16384x16384, .f32⟩
  | .hbm, ⟨20, _⟩ => ⟨S16384x16384, .f32⟩
  | .hbm, ⟨21, _⟩ => ⟨S16384x16384, .f32⟩
  | .hbm, ⟨22, _⟩ => ⟨S_, .f32⟩
  | .hbm, ⟨23, _⟩ => ⟨S16384x16384, .f32⟩
  | .hbm, ⟨24, _⟩ => ⟨S16384x16384, .f32⟩
  | .hbm, ⟨25, _⟩ => ⟨S_, .f32⟩
  | .hbm, ⟨26, _⟩ => ⟨S16384x16384, .f32⟩
  | .hbm, ⟨27, _⟩ => ⟨S16384x16384, .f32⟩
  | .hbm, ⟨28, _⟩ => ⟨S16384x16384, .f32⟩
  | .hbm, ⟨29, _⟩ => ⟨S8x128x1x16384, .f32⟩
  | .hbm, ⟨30, _⟩ => ⟨S8x1x128x16384, .f32⟩
  | .hbm, ⟨31, _⟩ => ⟨S8x128x128x16384, .f32⟩
  | .hbm, ⟨32, _⟩ => ⟨S8x128x128x16384, .f32⟩
  | .hbm, ⟨33, _⟩ => ⟨S8x128x128x16384, .f32⟩
  | .hbm, ⟨34, _⟩ => ⟨S8x1x128x16384, .f32⟩
  | .hbm, ⟨35, _⟩ => ⟨S8x128x1x16384, .f32⟩
  | .hbm, ⟨36, _⟩ => ⟨S8x128x128x16384, .f32⟩
  | .hbm, ⟨37, _⟩ => ⟨S8x128x128x16384, .f32⟩
  | .hbm, ⟨38, _⟩ => ⟨S8x128x128x16384, .i1⟩
  | .hbm, ⟨39, _⟩ => ⟨S_, .f32⟩
  | .hbm, ⟨40, _⟩ => ⟨S8x128x128x16384, .f32⟩
  | .hbm, ⟨41, _⟩ => ⟨S8x128x128x16384, .f32⟩
  | .hbm, ⟨42, _⟩ => ⟨S_, .f32⟩
  | .hbm, ⟨43, _⟩ => ⟨S128x128x16384, .f32⟩
  | .hbm, ⟨44, _⟩ => ⟨S16384x16384, .f32⟩
  | .hbm, ⟨45, _⟩ => ⟨S16384x16384, .f32⟩
  | .hbm, ⟨46, _⟩ => ⟨S16384x16384, .f32⟩
  | .hbm, ⟨47, _⟩ => ⟨S16384x2048, .f32⟩
  | .hbm, ⟨48, _⟩ => ⟨S4x4096x2048, .f32⟩
  | .hbm, ⟨49, _⟩ => ⟨S4x4096x2048, .f32⟩
  | .hbm, ⟨50, _⟩ => ⟨S4x1x2048, .f32⟩
  | .hbm, ⟨51, _⟩ => ⟨S4x4096x2048, .f32⟩
  | .hbm, ⟨52, _⟩ => ⟨S4x4096x2048, .f32⟩
  | .hbm, ⟨53, _⟩ => ⟨S4x4096x2048, .f32⟩
  | .hbm, ⟨54, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Kernel6.lean ====
abbrev S8x2048 : Shape := ⟨2, ![8, 2048]⟩
abbrev S2048x12288 : Shape := ⟨2, ![2048, 12288]⟩
abbrev S12288 : Shape := ⟨1, ![12288]⟩
abbrev S1x12288 : Shape := ⟨2, ![1, 12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S1x12288, .f32⟩
  | .hbm, ⟨4, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8x2048 : Shape := ⟨2, ![8, 2048]⟩
abbrev S2048x12288 : Shape := ⟨2, ![2048, 12288]⟩
abbrev S12288 : Shape := ⟨1, ![12288]⟩
abbrev S_ : Shape := ⟨0, ![]⟩
abbrev S8x12288 : Shape := ⟨2, ![8, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x12288, .f32⟩
  | .hbm, ⟨13, _⟩ => ⟨S1x12288, .f32⟩
  | .hbm, ⟨14, _⟩ => ⟨S8x12288, .f32⟩
  | .hbm, ⟨15, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Lru.Scalar.lean ====
module

public import Idealize.ShloMosaic.Lib.Pointwise

@[expose] public section

/-!
# Scalar facts of the gated linear recurrence

Facts about single extended reals, and about sequences of them, that both programs share: the decay of the
recurrence is a real number between 0 and 1, its input scale has two equal forms, and the doubling scan of a
chunk is the recurrence itself.
-/

noncomputable section

open Idealize.ShloMosaic

namespace Cert.Lru

/-- A bounded decay: between 0 and 1. -/
def Decay (a : EReal) : Prop := 0 ≤ a ∧ a ≤ 1

theorem Decay.ne_top {a : EReal} (h : Decay a) : a ≠ ⊤ := by
  intro e
  have := h.2
  rw [e] at this
  exact absurd this (by decide)

theorem Decay.mul {a b : EReal} (ha : Decay a) (hb : Decay b) : Decay (a * b) :=
  ⟨mul_nonneg ha.1 hb.1, by
    calc a * b ≤ a * 1 := mul_le_mul_of_nonneg_left hb.2 ha.1
      _ = a := mul_one a
      _ ≤ 1 := ha.2⟩

theorem Decay.one : Decay 1 := ⟨zero_le_one, le_refl 1⟩

/-- A decay distributes over every sum of extended reals. -/
theorem Decay.mul_add {a : EReal} (ha : Decay a) (x y : EReal) : a * (x + y) = a * x + a * y :=
  EReal.left_distrib_of_nonneg_of_ne_top ha.1 ha.ne_top x y

/-- The recurrence: `state 0` is the state before the sequence, `state (n + 1) = a n · state n + b n`. -/
def state (a b : ℕ → EReal) (h0 : EReal) : ℕ → EReal
  | 0 => h0
  | n + 1 => a n * state a b h0 n + b n

/-- A run of the recurrence started in the middle of another one. -/
theorem state_add (a b : ℕ → EReal) (h0 : EReal) (k n : ℕ) :
    state (fun i => a (k + i)) (fun i => b (k + i)) (state a b h0 k) n = state a b h0 (k + n) := by
  induction n with
  | zero => rfl
  | succ n ih => show _ * _ + _ = a (k + n) * state a b h0 (k + n) + b (k + n); rw [ih]

/-- The recurrence depends on its first coefficients alone. -/
theorem state_congr {a b a' b' : ℕ → EReal} {h0 : EReal} (n : ℕ) (ha : ∀ i < n, a i = a' i) (hb : ∀ i < n, b i = b' i) :
    state a b h0 n = state a' b' h0 n := by
  induction n with
  | zero => rfl
  | succ n ih =>
    show _ * _ + _ = _ * _ + _
    rw [ih (fun i hi => ha i (by omega)) (fun i hi => hb i (by omega)), ha n (by omega), hb n (by omega)]

/-- What the scan holds after its window has grown to `d` rows: row `p`'s pair `(A, B)` takes the state `d` rows
    back (the state before the chunk, where the chunk has fewer rows) to the state after row `p`. -/
def Window (s : ℕ → EReal) (d : ℕ) (A B : Fin 256 → EReal) : Prop :=
  ∀ p : Fin 256, Decay (A p) ∧ s (p + 1) = A p * s (p + 1 - d) + B p

/-- The window of one row: the recurrence's own coefficients. -/
theorem window_one {a b : ℕ → EReal} {h0 : EReal} {A B : Fin 256 → EReal} (hA : ∀ p : Fin 256, A p = a p)
    (hB : ∀ p : Fin 256, B p = b p) (hd : ∀ p, Decay (A p)) : Window (state a b h0) 1 A B := fun p => by
  refine ⟨hd p, ?_⟩
  rw [hA, hB]; rfl

/-- One doubling: the pair of row `p` composed with the pair `d` rows back, or with the identity where there is
    none. -/
theorem window_double {s : ℕ → EReal} {d : ℕ} {A B A' B' : Fin 256 → EReal} (h : Window s d A B)
    (hA : ∀ p : Fin 256, A' p = A p * if hp : d ≤ p.val then A ⟨p - d, by omega⟩ else 1)
    (hB : ∀ p : Fin 256, B' p = A p * (if hp : d ≤ p.val then B ⟨p - d, by omega⟩ else 0) + B p) :
    Window s (2 * d) A' B' := fun p => by
  rw [hA, hB]
  obtain ⟨ha, e⟩ := h p
  by_cases hp : d ≤ p.val
  · simp only [dif_pos hp]
    obtain ⟨ha', e'⟩ := h ⟨p - d, by omega⟩
    refine ⟨ha.mul ha', ?_⟩
    have e1 : p.val + 1 - d = p.val - d + 1 := by omega
    have e2 : p.val - d + 1 - d = p.val + 1 - 2 * d := by omega
    simp only at e'
    rw [e2] at e'
    rw [e, e1, e', ha.mul_add, mul_assoc, add_assoc]
  · simp only [dif_neg hp]
    refine ⟨by rw [mul_one]; exact ha, ?_⟩
    have e1 : p.val + 1 - 2 * d = p.val + 1 - d := by omega
    rw [mul_one, mul_zero, zero_add, e1, e]

/-- A window of all 256 rows reaches back to the state before the chunk. -/
theorem window_all {s : ℕ → EReal} {A B : Fin 256 → EReal} (h : Window s 256 A B) (p : Fin 256) :
    B p + A p * s 0 = s (p + 1) := by
  have e := (h p).2
  have e1 : p.val + 1 - 256 = 0 := by omega
  rw [e1] at e
  rw [e, add_comm]

/-! ## The coefficients -/

/-- The gate `1 / (1 + exp (-x))`. -/
theorem gate_decay (x : EReal) : Decay (Ideal.div 1 (1 + Ideal.exp x)) := by
  induction x with
  | bot => rw [Ideal.exp_bot, add_zero, Ideal.div, if_neg one_ne_zero, one_mul]; exact ⟨by simp, by simp⟩
  | top =>
    rw [Ideal.exp_top, Ideal.div]
    have : (1 : EReal) + ⊤ = ⊤ := by rfl
    rw [this, if_neg (by decide), one_mul, EReal.inv_top]
    exact ⟨le_refl 0, zero_le_one⟩
  | coe r =>
    rw [Ideal.exp_coe]
    have hpos : 0 < 1 + Real.exp r := by positivity
    have e : (1 : EReal) + (Real.exp r : EReal) = ((1 + Real.exp r : ℝ) : EReal) := by push_cast; rfl
    rw [e, Ideal.div_coe hpos.ne', one_mul]
    refine ⟨by exact_mod_cast (by positivity : (0 : ℝ) ≤ 1 / (1 + Real.exp r)), ?_⟩
    have : 1 / (1 + Real.exp r) ≤ 1 := by
      rw [div_le_one hpos]; linarith [Real.exp_pos r]
    exact_mod_cast this

/-- `log (1 + exp x)` is never negative. -/
theorem log1p_exp_nonneg (x : EReal) : 0 ≤ Ideal.log1p (Ideal.exp x) := by
  unfold Ideal.log1p
  induction x with
  | bot => rw [Ideal.exp_bot, add_zero]; show 0 ≤ Ideal.log ((1 : ℝ) : EReal); rw [Ideal.log_coe, if_neg (by norm_num)]; simp
  | top => rw [Ideal.exp_top]; show (0 : EReal) ≤ Ideal.log ⊤; rw [Ideal.log_top]; exact le_top
  | coe r =>
    rw [Ideal.exp_coe]
    have hpos : 0 < 1 + Real.exp r := by positivity
    have e : (1 : EReal) + (Real.exp r : EReal) = ((1 + Real.exp r : ℝ) : EReal) := by push_cast; rfl
    rw [e, Ideal.log_coe, if_neg (not_le.mpr hpos)]
    exact_mod_cast Real.log_nonneg (by linarith [Real.exp_pos r])

/-- The exponential of a number that is not positive is a decay. -/
theorem exp_decay {x : EReal} (h : x ≤ 0) : Decay (Ideal.exp x) := by
  induction x with
  | bot => rw [Ideal.exp_bot]; exact ⟨le_refl 0, zero_le_one⟩
  | top => exact absurd h (by decide)
  | coe r =>
    rw [Ideal.exp_coe]
    have hr : r ≤ 0 := by exact_mod_cast h
    exact ⟨by exact_mod_cast (Real.exp_pos r).le, by exact_mod_cast Real.exp_le_one_iff.mpr hr⟩

/-- `-2 tanh x / (1 - tanh x) = 1 - exp (2 x)`, for the logarithm of a decay, minus infinity included. -/
theorem scale_eq {x m2 p2 : EReal} (hm : m2 = ((-2 : ℝ) : EReal)) (hp : p2 = ((2 : ℝ) : EReal)) (h : x ≤ 0) :
    Ideal.div (m2 * Ideal.tanh x) (1 - Ideal.tanh x) = -Ideal.expm1 (p2 * x) := by
  subst hm hp
  unfold Ideal.expm1
  induction x with
  | bot =>
    have e1 : ((2 : ℝ) : EReal) * ⊥ = ⊥ := EReal.coe_mul_bot_of_pos (by norm_num)
    rw [e1, Ideal.exp_bot, Ideal.tanh_bot]
    have e2 : (1 : EReal) - -1 = ((2 : ℝ) : EReal) := by
      show ((1 : ℝ) : EReal) - -((1 : ℝ) : EReal) = _
      rw [← EReal.coe_neg, ← EReal.coe_sub]; norm_num
    have e3 : ((-2 : ℝ) : EReal) * -1 = ((2 : ℝ) : EReal) := by
      show ((-2 : ℝ) : EReal) * -((1 : ℝ) : EReal) = _
      rw [← EReal.coe_neg, ← EReal.coe_mul]; norm_num
    rw [e2, e3, Ideal.div_coe (by norm_num), ← EReal.coe_mul]
    simp
  | top => exact absurd h (by decide)
  | coe r =>
    rw [Ideal.tanh_coe, ← EReal.coe_mul 2 r, Ideal.exp_coe, ← EReal.coe_mul, ← EReal.coe_one, ← EReal.coe_sub, ← EReal.coe_sub,
      ← EReal.coe_neg]
    have hc : 0 < Real.cosh r := Real.cosh_pos r
    have hne : 1 - Real.tanh r = Real.exp (-r) / Real.cosh r := by
      rw [Real.tanh_eq_sinh_div_cosh, ← Real.cosh_sub_sinh, sub_div, div_self hc.ne']
    have hpos : 1 - Real.tanh r ≠ 0 := by rw [hne]; positivity
    rw [Ideal.div_coe hpos, ← EReal.coe_mul]
    congr 1
    rw [hne, Real.tanh_eq_sinh_div_cosh]
    have he : Real.exp (2 * r) = Real.exp r * Real.exp r := by rw [two_mul, Real.exp_add]
    have hm : Real.exp (-r) = (Real.exp r)⁻¹ := Real.exp_neg r
    have hp := Real.exp_pos r
    rw [he, Real.sinh_eq, hm]
    field_simp

end Cert.Lru
-- ==== Proof.Lru.Spec.lean ====
module

public import proofs.«01_k».proof.Proof.Lru.Scalar

@[expose] public section

/-!
# The gated linear recurrence, channel by channel

One function of the call's ten arguments, written for the rows of one batch entry and one channel at a time.  Both
programs are read to it: the kernel block by block, the reference step by step.
-/

noncomputable section

open Idealize.ShloMosaic

namespace Cert.Lru

/-- The ten arguments: the two streams of rows, the convolution's taps and bias, the gates' block-diagonal weights and
    biases, the decay parameter and the gain of the last normalisation. -/
structure Args where
  X : Fin 16384 → Fin 1024 → EReal
  Y : Fin 16384 → Fin 1024 → EReal
  cw : Fin 4 → Fin 1024 → EReal
  cb : Fin 1024 → EReal
  wa : Fin 8 → Fin 128 → Fin 128 → EReal
  ba : Fin 1024 → EReal
  wx : Fin 8 → Fin 128 → Fin 128 → EReal
  bx : Fin 1024 → EReal
  lam : Fin 1024 → EReal
  g : Fin 1024 → EReal

/-- The literals of both programs that are not whole numbers' patterns. -/
def half : EReal := Ideal.ofBits .f32 0x3F000000#32
def cubic : EReal := Ideal.ofBits .f32 0x3D372713#32
def inner : EReal := Ideal.ofBits .f32 0x3F4C422A#32
def count : EReal := Ideal.ofBits .f32 0x44800000#32
def eps : EReal := Ideal.ofBits .f32 0x358637BD#32
def minusEight : EReal := Ideal.ofBits .f32 0xC1000000#32
def minusTwo : EReal := Ideal.ofBits .f32 0xC0000000#32
def two : EReal := Ideal.ofBits .f32 0x40000000#32

theorem minusEight_eq : minusEight = ((-8 : ℝ) : EReal) := by
  simp [minusEight, Ideal.ofBits, Ideal.ieee, -EReal.coe_mul, -EReal.coe_neg]; norm_num

theorem minusTwo_eq : minusTwo = ((-2 : ℝ) : EReal) := by
  simp [minusTwo, Ideal.ofBits, Ideal.ieee, -EReal.coe_mul, -EReal.coe_neg]; norm_num

theorem two_eq : two = ((2 : ℝ) : EReal) := by
  simp [two, Ideal.ofBits, Ideal.ieee, -EReal.coe_mul, -EReal.coe_neg]; norm_num

/-- Row `s` of batch entry `b`. -/
def row (b s : ℕ) : Fin 16384 := ⟨(4096 * b + s) % 16384, Nat.mod_lt _ (by decide)⟩

/-- The gate. -/
def sig (z : EReal) : EReal := Ideal.div 1 (1 + Ideal.exp (0 - z))

/-- The decay rate of a channel: the soft maximum of 0 and minus the parameter. -/
def rate (x : EReal) : EReal := max (0 - x) 0 + Ideal.log1p (Ideal.exp (0 - max (0 - x) (-(0 - x))))

/-- The logarithm of a decay. -/
def logDecay (r sp : EReal) : EReal := minusEight * r * sp

/-- The input of a step. -/
def feed (la gi v : EReal) : EReal :=
  Ideal.sqrt (Ideal.div (minusTwo * Ideal.tanh la) (1 - Ideal.tanh la)) * (gi * v)

/-- The gelu of the second stream. -/
def gelu (y : EReal) : EReal := half * y * (1 + Ideal.tanh (inner * (y + cubic * (y * y * y))))

/-- The root-mean-square normalisation of one row, at one channel. -/
def norm (y : Fin 1024 → EReal) (g : EReal) (l : Fin 1024) : EReal :=
  y l * Ideal.rsqrt (Ideal.div (∑ k, y k * y k) count + eps) * g

/-- The channel `k` of the block that channel `l` lies in. -/
def chan (l : Fin 1024) (k : Fin 128) : Fin 1024 := ⟨128 * (l.val / 128) + k.val, by omega⟩
def blk (l : Fin 1024) : Fin 8 := ⟨l.val / 128, by omega⟩
def lane (l : Fin 1024) : Fin 128 := ⟨l.val % 128, by omega⟩

namespace Args

variable (A : Args)

/-- The first stream `k` rows back, zero before the sequence. -/
def sh (k b s : ℕ) (l : Fin 1024) : EReal := if k ≤ s then A.X (row b (s - k)) l else 0

/-- The causal convolution of four taps. -/
def cv (b s : ℕ) (l : Fin 1024) : EReal :=
  A.cb l + A.cw 3 l * A.X (row b s) l + A.cw 0 l * A.sh 3 b s l + A.cw 1 l * A.sh 2 b s l + A.cw 2 l * A.sh 1 b s l

/-- A gate's block-diagonal product. -/
def gate (w : Fin 8 → Fin 128 → Fin 128 → EReal) (bias : Fin 1024 → EReal) (b s : ℕ) (l : Fin 1024) : EReal :=
  sig ((∑ k : Fin 128, A.cv b s (chan l k) * w (blk l) k (lane l)) + bias l)

def la (b s : ℕ) (l : Fin 1024) : EReal := logDecay (A.gate A.wa A.ba b s l) (rate (A.lam l))

/-- The step's two coefficients. -/
def a (b : ℕ) (l : Fin 1024) (s : ℕ) : EReal := Ideal.exp (A.la b s l)
def bb (b : ℕ) (l : Fin 1024) (s : ℕ) : EReal := feed (A.la b s l) (A.gate A.wx A.bx b s l) (A.cv b s l)

/-- The state before step `s`. -/
def h (b : ℕ) (l : Fin 1024) (s : ℕ) : EReal := state (A.a b l) (A.bb b l) 0 s

/-- The gated state of step `s`. -/
def y (b s : ℕ) (l : Fin 1024) : EReal := A.h b l (s + 1) * gelu (A.Y (row b s) l)

/-- The result at step `s`, channel `l`. -/
def out (b s : ℕ) (l : Fin 1024) : EReal := norm (A.y b s) (A.g l) l

end Args

theorem rate_nonneg (x : EReal) : 0 ≤ rate x := add_nonneg (le_max_right _ _) (log1p_exp_nonneg _)

theorem logDecay_nonpos (z x : EReal) : logDecay (sig z) (rate x) ≤ 0 := by
  unfold logDecay
  have h1 : minusEight * sig z ≤ 0 := by
    rw [minusEight_eq]
    exact mul_nonpos_of_nonpos_of_nonneg (by exact_mod_cast (by norm_num : (-8 : ℝ) ≤ 0)) (gate_decay _).1
  exact mul_nonpos_of_nonpos_of_nonneg h1 (rate_nonneg x)

theorem Args.a_decay (A : Args) (b : ℕ) (l : Fin 1024) (s : ℕ) : Decay (A.a b l s) := exp_decay (logDecay_nonpos _ _)

end Cert.Lru
-- ==== Proof.Lru.Scan.lean ====
module

public import proofs.«01_k».proof.Proof.Gen.KernelIdeal.Skeleton
public import proofs.«01_k».proof.Proof.Lru.Spec

@[expose] public section

/-!
# The doubling scan of one block

The eight stages of the scan are one pair of operations at eight distances.  Read at a row, a stage composes the row's
pair with the pair that many rows back; after the eighth the window is the block.
-/

set_option maxRecDepth 16384

noncomputable section

open Idealize.ShloMosaic Idealize.ShloMosaic.TcCoe Idealize.SL.Sem

namespace Cert.Lru

open Cert.KernelIdeal Cert.KernelIdeal.Gen

/-- The row numbers of a block. -/
def rows : IVec S256x1 32 := iota .tc S256x1 32 [0] iota_S256x1_d0_w32

/-- Which rows of a block have another one `d` rows back. -/
def keep (d : BitVec 32) : IVec S256x1024 1 :=
  broadcastTo S256x1024 (shapeCast S256x1 (cmpi .sge rows (broadcast S256x1 d)) shapeCasts_S256x1_S256x1)
    broadcasts_S256x1_S256x1024

/-- A stage's new decays. -/
def stA (d : BitVec 32) (A : FVec Ideal S256x1024 .f32) : FVec Ideal S256x1024 .f32 :=
  mulf A (select (keep d) (dynamicRotate 0 d none A rotates_S256x1024_d0)
    (broadcast S256x1024 (Scalar.ofBits .f32 0x3F800000#32)))

/-- A stage's new inputs. -/
def stB (d : BitVec 32) (A B : FVec Ideal S256x1024 .f32) : FVec Ideal S256x1024 .f32 :=
  addf (mulf A (select (keep d) (dynamicRotate 0 d none B rotates_S256x1024_d0)
    (broadcast S256x1024 (Scalar.ofBits .f32 0x00000000#32)))) B

/-- The row comparison, as a comparison of numbers. -/
theorem sel_row {α : Type} (d : BitVec 32) (hd : d.toNat ≤ 128) (p : Fin 256) (x y : α) :
    Scalar.select (IntOp.cmpi CmpIPredicate.sge (BitVec.ofNat 32 p.val) d) x y = if d.toNat ≤ p.val then x else y := by
  have e : BitVec.ofBool (d.sle (BitVec.ofNat 32 p.val)) = 1 ↔ d.toNat ≤ p.val := by
    rw [BitVec.sle_eq_decide, BitVec.toInt_eq_toNat_of_lt (by omega),
      BitVec.toInt_eq_toNat_of_lt (by rw [BitVec.toNat_ofNat, Nat.mod_eq_of_lt (by omega)]; omega),
      BitVec.toNat_ofNat, Nat.mod_eq_of_lt (by omega)]
    by_cases h : d.toNat ≤ p.val
    · simp [h]
    · simp [h]
  show (if BitVec.ofBool (d.sle (BitVec.ofNat 32 p.val)) = 1 then x else y) = _
  by_cases h : d.toNat ≤ p.val
  · rw [if_pos (e.2 h), if_pos h]
  · rw [if_neg (fun q => h (e.1 q)), if_neg h]

theorem rot_row (d : BitVec 32) (hd : d.toNat ≤ 128) (A : FVec Ideal S256x1024 .f32) (p : Fin 256) (l : Fin 1024)
    (h : d.toNat ≤ p.val) (q) :
    A (ix2 ⟨(p.val + 256 - d.toNat % 256) % 256, q⟩ l) = A (ix2 (⟨p.val - d.toNat, by omega⟩ : Fin 256) l) := by
  have e : (p.val + 256 - d.toNat % 256) % 256 = p.val - d.toNat := by omega
  exact congrArg A ((ix2_inj ..).2 ⟨Fin.ext e, rfl⟩)

theorem stA_read (d : BitVec 32) (hd : d.toNat ≤ 128) (A : FVec Ideal S256x1024 .f32) (p : Fin 256) (l : Fin 1024) :
    stA d A (ix2 p l) = (A (ix2 p l) : EReal) *
      if hp : d.toNat ≤ p.val then A (ix2 (⟨p.val - d.toNat, by omega⟩ : Fin 256) l) else 1 := by
  pointwise [stA, keep, rows]
  refine congrArg (A (ix2 p l) * ·) ((sel_row d hd p _ _).trans ?_)
  by_cases h : d.toNat ≤ p.val
  · rw [if_pos h, dif_pos h]; exact rot_row d hd A p l h _
  · rw [if_neg h, dif_neg h]

theorem stB_read (d : BitVec 32) (hd : d.toNat ≤ 128) (A B : FVec Ideal S256x1024 .f32) (p : Fin 256) (l : Fin 1024) :
    stB d A B (ix2 p l) = (A (ix2 p l) : EReal) *
      (if hp : d.toNat ≤ p.val then B (ix2 (⟨p.val - d.toNat, by omega⟩ : Fin 256) l) else 0) + B (ix2 p l) := by
  pointwise [stB, keep, rows]
  refine congrArg (· + B (ix2 p l)) ((sel_row d hd p _ _).trans ?_)
  by_cases h : d.toNat ≤ p.val
  · rw [if_pos h, dif_pos h]; exact congrArg (A (ix2 p l) * ·) (rot_row d hd B p l h _)
  · rw [if_neg h, dif_neg h]; exact (mul_zero _).symm

/-- One stage doubles the window. -/
theorem stage {s : ℕ → EReal} {l : Fin 1024} {A B : FVec Ideal S256x1024 .f32} (d : BitVec 32) (hd : d.toNat ≤ 128)
    (h : Window s d.toNat (fun p => A (ix2 p l)) (fun p => B (ix2 p l))) :
    Window s (2 * d.toNat) (fun p => stA d A (ix2 p l)) (fun p => stB d A B (ix2 p l)) :=
  window_double h (fun p => stA_read d hd A p l) (fun p => stB_read d hd A B p l)

/-- The eight stages. -/
def scanA (A : FVec Ideal S256x1024 .f32) : FVec Ideal S256x1024 .f32 :=
  stA 128#32 (stA 64#32 (stA 32#32 (stA 16#32 (stA 8#32 (stA 4#32 (stA 2#32 (stA 1#32 A)))))))

def scanB (A B : FVec Ideal S256x1024 .f32) : FVec Ideal S256x1024 .f32 :=
  let A1 := stA 1#32 A
  let A2 := stA 2#32 A1
  let A3 := stA 4#32 A2
  let A4 := stA 8#32 A3
  let A5 := stA 16#32 A4
  let A6 := stA 32#32 A5
  let A7 := stA 64#32 A6
  stB 128#32 A7 (stB 64#32 A6 (stB 32#32 A5 (stB 16#32 A4 (stB 8#32 A3 (stB 4#32 A2 (stB 2#32 A1 (stB 1#32 A B)))))))

/-- The scan of a block is the recurrence over its rows. -/
theorem scan_read (a b : ℕ → EReal) (h0 : EReal) (l : Fin 1024) (A B : FVec Ideal S256x1024 .f32)
    (hA : ∀ p : Fin 256, A (ix2 p l) = a p) (hB : ∀ p : Fin 256, B (ix2 p l) = b p) (hd : ∀ n, Decay (a n)) (p : Fin 256) :
    (scanB A B (ix2 p l) + scanA A (ix2 p l) * h0 : EReal) = state a b h0 (p + 1) :=
  window_all (s := state a b h0) (stage 128#32 (by decide) (stage 64#32 (by decide) (stage 32#32 (by decide)
    (stage 16#32 (by decide) (stage 8#32 (by decide) (stage 4#32 (by decide) (stage 2#32 (by decide) (stage 1#32 (by decide)
    (window_one hA hB (fun p => by rw [hA]; exact hd _)))))))))) p

/-- The decays of a block, from its gate and its decay rates. -/
def blockA (rg : FVec Ideal S256x1024 .f32) (lam : FVec Ideal S1x1024 .f32) : FVec Ideal S256x1024 .f32 :=
  k0_pay36 rg (k0_pay33 lam) (k0_pay34 lam)

/-- The inputs of a block, from its gates and its convolved rows. -/
def blockB (xc rg ig : FVec Ideal S256x1024 .f32) (lam : FVec Ideal S1x1024 .f32) : FVec Ideal S256x1024 .f32 :=
  mulf (sqrt (divf (mulf (broadcast S256x1024 (Scalar.ofBits .f32 0xC0000000#32)) (tanh (k0_pay35 rg (k0_pay33 lam) (k0_pay34 lam))))
    (subf (broadcast S256x1024 (Scalar.ofBits .f32 0x3F800000#32)) (tanh (k0_pay35 rg (k0_pay33 lam) (k0_pay34 lam)))))) (mulf ig xc)

/-- What the body computes of the decays is the scan of them. -/
def bodyA (rg : FVec Ideal S256x1024 .f32) (lam : FVec Ideal S1x1024 .f32) : FVec Ideal S256x1024 .f32 :=
  k0_pay55 rows (k0_pay48 rows (k0_pay41 rg (k0_pay33 lam) (k0_pay34 lam)) 4#32) 32#32

def bodyB (xc rg ig : FVec Ideal S256x1024 .f32) (lam : FVec Ideal S1x1024 .f32) : FVec Ideal S256x1024 .f32 :=
  k0_pay54 rows (k0_pay47 rows (k0_pay40 xc rg ig (k0_pay33 lam) (k0_pay34 lam)) (k0_pay41 rg (k0_pay33 lam) (k0_pay34 lam)) 4#32)
    (k0_pay48 rows (k0_pay41 rg (k0_pay33 lam) (k0_pay34 lam)) 4#32) 32#32

theorem bodyA_eq (rg : FVec Ideal S256x1024 .f32) (lam : FVec Ideal S1x1024 .f32) : bodyA rg lam = scanA (blockA rg lam) := rfl

theorem bodyB_eq (xc rg ig : FVec Ideal S256x1024 .f32) (lam : FVec Ideal S1x1024 .f32) :
    bodyB xc rg ig lam = scanB (blockA rg lam) (blockB xc rg ig lam) := rfl

theorem blockA_read (rg : FVec Ideal S256x1024 .f32) (lam : FVec Ideal S1x1024 .f32) (p : Fin 256) (l : Fin 1024) :
    blockA rg lam (ix2 p l) = Ideal.exp (logDecay (rg (ix2 p l)) (rate (lam (ix2 0 l)))) := by
  pointwise [blockA, k0_pay32, k0_pay33, k0_pay34, k0_pay35, k0_pay36, logDecay, rate, minusEight]
  rfl

theorem blockB_read (xc rg ig : FVec Ideal S256x1024 .f32) (lam : FVec Ideal S1x1024 .f32) (p : Fin 256) (l : Fin 1024) :
    blockB xc rg ig lam (ix2 p l) =
      feed (logDecay (rg (ix2 p l)) (rate (lam (ix2 0 l)))) (ig (ix2 p l)) (xc (ix2 p l)) := by
  pointwise [blockB, k0_pay32, k0_pay33, k0_pay34, k0_pay35, k0_pay36, logDecay, rate, feed, minusEight, minusTwo]
  rfl

end Cert.Lru
-- ==== Proof.Lru.Block.lean ====
module

public import proofs.«01_k».proof.Proof.Lru.Scan

@[expose] public section

/-!
# One block of the kernel, read at a row and a channel

What the body computes from a block of rows, the rows before it and the state before it, as functions of those vectors;
each read at `(p, l)`.
-/

set_option maxRecDepth 16384

noncomputable section

open Idealize.ShloMosaic Idealize.ShloMosaic.TcCoe Idealize.SL.Sem

namespace Cert.Lru

open Cert.KernelIdeal Cert.KernelIdeal.Gen

/-- The convolved rows. -/
theorem conv_read (x : FVec Ideal S256x1024 .f32) (cb w3 w0 w1 w2 : FVec Ideal S1x1024 .f32) (s5 s6 s7 : FVec Ideal S256x1024 .f32)
    (p : Fin 256) (l : Fin 1024) :
    k0_pay5 x cb w3 w0 s5 w1 s6 w2 s7 (ix2 p l) =
      (cb (ix2 0 l) + w3 (ix2 0 l) * x (ix2 p l) + w0 (ix2 0 l) * s5 (ix2 p l) + w1 (ix2 0 l) * s6 (ix2 p l)
        + w2 (ix2 0 l) * s7 (ix2 p l) : EReal) := by
  pointwise [k0_pay5]

/-- A gate of the block, from the convolved rows and the eight squares of weights. -/
def gateVec (xc : FVec Ideal S256x1024 .f32) (G : Fin 8 → FVec Ideal S1x128x128 .bf16) (bias : FVec Ideal S1x1024 .f32) :
    FVec Ideal S256x1024 .f32 :=
  k0_pay30 (k0_pay9 xc (G 0)) (k0_pay12 xc (G 1)) (k0_pay15 xc (G 2)) (k0_pay18 xc (G 3)) (k0_pay21 xc (G 4))
    (k0_pay24 xc (G 5)) (k0_pay27 xc (G 6)) (k0_pay29 xc) (G 7) bias

theorem gateVec_eq (xc : FVec Ideal S256x1024 .f32) (G : Fin 8 → FVec Ideal S1x128x128 .bf16) (bias : FVec Ideal S1x1024 .f32) :
    k0_pay31 (k0_pay10 xc (G 0)) (k0_pay13 xc (G 1)) (k0_pay16 xc (G 2)) (k0_pay19 (k0_pay17 xc) (G 3)) (k0_pay22 xc (G 4))
      (k0_pay25 xc (G 5)) (k0_pay28 xc (G 6)) (k0_pay29 xc) (G 7) bias = gateVec xc G bias := rfl

/-- One square of the block-diagonal product: the channels of square `q` lie in block `q`. -/
theorem gate_leaf (xc : FVec Ideal S256x1024 .f32) (G : Fin 8 → FVec Ideal S1x128x128 .bf16) (p : Fin 256) (l : Fin 1024)
    (q : Fin 8) (c : Fin 128 → Fin 1024) (n : Fin 128) (hc : ∀ x, (c x).val = 128 * q.val + x.val)
    (hn : n.val + 128 * q.val = l.val) :
    (∑ x : Fin 128, (xc (ix2 p (c x)) * G q (ix3 0 x n) : EReal)) =
      ∑ k : Fin 128, (xc (ix2 p (chan l k)) * G (blk l) (ix3 0 k (lane l)) : EReal) := by
  have e1 : blk l = q := Fin.ext (by show l.val / 128 = q.val; omega)
  have e2 : lane l = n := Fin.ext (by show l.val % 128 = n.val; omega)
  have e3 : ∀ k, c k = chan l k := fun k => Fin.ext (by rw [hc]; show _ = 128 * (l.val / 128) + k.val; omega)
  rw [e1, e2]
  exact Finset.sum_congr rfl fun k _ => by rw [e3 k]

theorem gateVec_read (xc : FVec Ideal S256x1024 .f32) (G : Fin 8 → FVec Ideal S1x128x128 .bf16) (bias : FVec Ideal S1x1024 .f32)
    (p : Fin 256) (l : Fin 1024) :
    gateVec xc G bias (ix2 p l) =
      sig ((∑ k : Fin 128, (xc (ix2 p (chan l k)) * G (blk l) (ix3 0 k (lane l)) : EReal)) + bias (ix2 0 l)) := by
  pointwise [gateVec, k0_pay30, k0_pay9, k0_pay12, k0_pay15, k0_pay18, k0_pay21, k0_pay24, k0_pay27, k0_pay29, k0_pay8, k0_pay11,
    k0_pay14, k0_pay17, k0_pay20, k0_pay23, k0_pay26, sig]
  refine congrArg (fun z => Ideal.div 1 (1 + Ideal.exp (0 - (z + bias (ix2 0 l))))) ?_
  split
  · exact gate_leaf xc G p l 0 _ _ (fun x => (Nat.zero_add _).symm) (by simp)
  split
  · exact gate_leaf xc G p l 1 _ _ (fun x => rfl) (Nat.sub_add_cancel (by omega))
  split
  · exact gate_leaf xc G p l 2 _ _ (fun x => rfl) (by show l.val - 128 - 128 + 256 = l.val; omega)
  split
  · exact gate_leaf xc G p l 3 _ _ (fun x => rfl) (by show l.val - 128 - 128 - 128 + 384 = l.val; omega)
  split
  · exact gate_leaf xc G p l 4 _ _ (fun x => rfl) (by show l.val - 128 - 128 - 128 - 128 + 512 = l.val; omega)
  split
  · exact gate_leaf xc G p l 5 _ _ (fun x => rfl) (by show l.val - 128 - 128 - 128 - 128 - 128 + 640 = l.val; omega)
  split
  · exact gate_leaf xc G p l 6 _ _ (fun x => rfl) (by show l.val - 128 - 128 - 128 - 128 - 128 - 128 + 768 = l.val; omega)
  · exact gate_leaf xc G p l 7 _ _ (fun x => rfl) (by show l.val - 128 - 128 - 128 - 128 - 128 - 128 - 128 + 896 = l.val; omega)

/-- The block after the scan: the state after each of its rows, from the state `h0` before it. -/
theorem state_read (SB SA : FVec Ideal S256x1024 .f32) (h0 : FVec Ideal S1x1024 .f32) (p : Fin 256) (l : Fin 1024) :
    k0_pay56 SB SA h0 (ix2 p l) = (SB (ix2 p l) + SA (ix2 p l) * h0 (ix2 0 l) : EReal) := by
  pointwise [k0_pay56]

/-- The carried state: the state after the last row, in every one of eight rows. -/
theorem carry_read (SB SA : FVec Ideal S256x1024 .f32) (h0 : FVec Ideal S1x1024 .f32) (r : Fin 8) (l : Fin 1024) :
    k0_pay57 SB SA h0 (ix2 r l) = k0_pay56 SB SA h0 (ix2 (255 : Fin 256) l) := by
  pointwise [k0_pay57, k0_pay56]

/-- The last rows of the block, kept for the next one. -/
theorem tail_read (x : FVec Ideal S256x1024 .f32) (r : Fin 8) (l : Fin 1024) :
    k0_pay7 (k0_pay6 x) (ix2 r l) = x (ix2 (⟨248 + r.val, by omega⟩ : Fin 256) l) := by
  pointwise [k0_pay6, k0_pay7]

/-- The stored rows: the gated state, normalised. -/
theorem out_read (SB SA : FVec Ideal S256x1024 .f32) (h0 : FVec Ideal S1x1024 .f32) (y : FVec Ideal S256x1024 .f32)
    (g : FVec Ideal S1x1024 .f32) (p : Fin 256) (l : Fin 1024) :
    k0_pay1 (k0_pay58 SB SA h0 y) (k0_pay59 g) (ix2 p l) =
      norm (fun k => k0_pay56 SB SA h0 (ix2 p k) * gelu (y (ix2 p k))) (g (ix2 0 l)) l := by
  pointwise [k0_pay1, k0_pay58, k0_pay59, k0_pay56, norm, gelu, half, cubic, inner, count, eps]

end Cert.Lru
-- ==== Proof.Lru.Chunk.lean ====
module

public import proofs.«01_k».proof.Proof.Lru.Block

@[expose] public section

/-!
# One block of the kernel is one chunk of the recurrence

If the vectors a block reads are the arguments' rows (and the rows and the state before them), then what the body
stores and carries is the recurrence's, at the rows of the block.
-/

set_option maxRecDepth 16384

noncomputable section

open Idealize.ShloMosaic Idealize.ShloMosaic.TcCoe Idealize.SL.Sem

namespace Cert.Lru

open Cert.KernelIdeal Cert.KernelIdeal.Gen

/-- The vectors one block reads. -/
structure Reads where
  x : FVec Ideal S256x1024 .f32
  y : FVec Ideal S256x1024 .f32
  cb : FVec Ideal S1x1024 .f32
  w0 : FVec Ideal S1x1024 .f32
  w1 : FVec Ideal S1x1024 .f32
  w2 : FVec Ideal S1x1024 .f32
  w3 : FVec Ideal S1x1024 .f32
  s5 : FVec Ideal S256x1024 .f32
  s6 : FVec Ideal S256x1024 .f32
  s7 : FVec Ideal S256x1024 .f32
  wa : Fin 8 → FVec Ideal S1x128x128 .bf16
  ba : FVec Ideal S1x1024 .f32
  wx : Fin 8 → FVec Ideal S1x128x128 .bf16
  bx : FVec Ideal S1x1024 .f32
  lam : FVec Ideal S1x1024 .f32
  g : FVec Ideal S1x1024 .f32
  h0 : FVec Ideal S1x1024 .f32

namespace Reads

variable (R : Reads)

def xc : FVec Ideal S256x1024 .f32 := k0_pay5 R.x R.cb R.w3 R.w0 R.s5 R.w1 R.s6 R.w2 R.s7
def rg : FVec Ideal S256x1024 .f32 := gateVec R.xc R.wa R.ba
def ig : FVec Ideal S256x1024 .f32 := gateVec R.xc R.wx R.bx
def sb : FVec Ideal S256x1024 .f32 := bodyB R.xc R.rg R.ig R.lam
def sa : FVec Ideal S256x1024 .f32 := bodyA R.rg R.lam
/-- The states after the rows of the block, the rows stored and the state carried. -/
def states : FVec Ideal S256x1024 .f32 := k0_pay56 R.sb R.sa R.h0
def stored : FVec Ideal S256x1024 .bf16 := k0_pay1 (k0_pay58 R.sb R.sa R.h0 R.y) (k0_pay59 R.g)
def carried : FVec Ideal S8x1024 .f32 := k0_pay57 R.sb R.sa R.h0

/-- The vectors are the arguments' rows from `256 j` on, in batch entry `b`. -/
structure Of (A : Args) (b j : ℕ) : Prop where
  x : ∀ p l, R.x (ix2 p l) = A.X (row b (256 * j + p.val)) l
  y : ∀ p l, R.y (ix2 p l) = A.Y (row b (256 * j + p.val)) l
  cb : ∀ l, R.cb (ix2 0 l) = A.cb l
  w0 : ∀ l, R.w0 (ix2 0 l) = A.cw 0 l
  w1 : ∀ l, R.w1 (ix2 0 l) = A.cw 1 l
  w2 : ∀ l, R.w2 (ix2 0 l) = A.cw 2 l
  w3 : ∀ l, R.w3 (ix2 0 l) = A.cw 3 l
  s5 : ∀ p l, R.s5 (ix2 p l) = A.sh 3 b (256 * j + p.val) l
  s6 : ∀ p l, R.s6 (ix2 p l) = A.sh 2 b (256 * j + p.val) l
  s7 : ∀ p l, R.s7 (ix2 p l) = A.sh 1 b (256 * j + p.val) l
  wa : ∀ q k n, R.wa q (ix3 0 k n) = A.wa q k n
  ba : ∀ l, R.ba (ix2 0 l) = A.ba l
  wx : ∀ q k n, R.wx q (ix3 0 k n) = A.wx q k n
  bx : ∀ l, R.bx (ix2 0 l) = A.bx l
  lam : ∀ l, R.lam (ix2 0 l) = A.lam l
  g : ∀ l, R.g (ix2 0 l) = A.g l
  h0 : ∀ l, R.h0 (ix2 0 l) = A.h b l (256 * j)

variable {R} {A : Args} {b j : ℕ} (H : R.Of A b j)
include H

theorem xc_spec (p : Fin 256) (l : Fin 1024) : R.xc (ix2 p l) = A.cv b (256 * j + p.val) l := by
  refine (conv_read R.x R.cb R.w3 R.w0 R.w1 R.w2 R.s5 R.s6 R.s7 p l).trans ?_
  rw [H.x, H.cb, H.w0, H.w1, H.w2, H.w3, H.s5, H.s6, H.s7]; rfl

theorem rg_spec (p : Fin 256) (l : Fin 1024) : R.rg (ix2 p l) = A.gate A.wa A.ba b (256 * j + p.val) l := by
  refine (gateVec_read R.xc R.wa R.ba p l).trans ?_
  rw [H.ba]
  exact congrArg (fun z => sig (z + A.ba l)) (Finset.sum_congr rfl fun k _ => by rw [xc_spec H, H.wa])

theorem ig_spec (p : Fin 256) (l : Fin 1024) : R.ig (ix2 p l) = A.gate A.wx A.bx b (256 * j + p.val) l := by
  refine (gateVec_read R.xc R.wx R.bx p l).trans ?_
  rw [H.bx]
  exact congrArg (fun z => sig (z + A.bx l)) (Finset.sum_congr rfl fun k _ => by rw [xc_spec H, H.wx])

theorem states_spec (p : Fin 256) (l : Fin 1024) : R.states (ix2 p l) = A.h b l (256 * j + p.val + 1) := by
  refine (state_read R.sb R.sa R.h0 p l).trans ?_
  rw [sb, sa, bodyA_eq, bodyB_eq, H.h0]
  refine (scan_read (fun i => A.a b l (256 * j + i)) (fun i => A.bb b l (256 * j + i)) _ l _ _ (fun p => ?_) (fun p => ?_)
    (fun n => A.a_decay b l _) p).trans (state_add (A.a b l) (A.bb b l) 0 (256 * j) (p.val + 1))
  · refine (blockA_read R.rg R.lam p l).trans ?_
    rw [rg_spec H, H.lam]; rfl
  · refine (blockB_read R.xc R.rg R.ig R.lam p l).trans ?_
    rw [rg_spec H, ig_spec H, xc_spec H, H.lam]; rfl

theorem carried_spec (r : Fin 8) (l : Fin 1024) : R.carried (ix2 r l) = A.h b l (256 * (j + 1)) := by
  refine (carry_read R.sb R.sa R.h0 r l).trans ((states_spec H 255 l).trans ?_)
  exact congrArg (A.h b l) (by show 256 * j + 255 + 1 = 256 * (j + 1); omega)

theorem stored_spec (p : Fin 256) (l : Fin 1024) : R.stored (ix2 p l) = A.out b (256 * j + p.val) l := by
  refine (out_read R.sb R.sa R.h0 R.y R.g p l).trans ?_
  rw [H.g]
  exact congrArg (fun z => norm z (A.g l) l) (funext fun k => by
    have e := states_spec H p k
    rw [states] at e
    rw [e, H.y]; rfl)

end Reads

end Cert.Lru
-- ==== Proof.Lru.Inputs.lean ====
module

public import proofs.«01_k».proof.Proof.Gen.KernelIdeal.Value
public import Idealize.ShloMosaic.Lib.Pipeline.ValueKit
public import proofs.«01_k».proof.Proof.Lru.Chunk

@[expose] public section

/-!
# What a block of the kernel reads

The blocks of grid point `t`, element by element, as the call's arguments: the two streams' rows from `256 t` on, and the
weights whole.
-/

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The kernel's arguments, by row and channel. -/
def args (c : Dev nD) : Lru.Args where
  X r l := m ((c : Thread nD τ).loc main_arg0) (ix2 r l)
  Y r l := m ((c : Thread nD τ).loc main_arg1) (ix2 r l)
  cw k l := m ((c : Thread nD τ).loc main_arg2) (ix2 k l)
  cb l := m ((c : Thread nD τ).loc main_arg3) (ix1 l)
  wa q k n := m ((c : Thread nD τ).loc main_arg4) (ix3 q k n)
  ba l := m ((c : Thread nD τ).loc main_arg5) (ix1 l)
  wx q k n := m ((c : Thread nD τ).loc main_arg6) (ix3 q k n)
  bx l := m ((c : Thread nD τ).loc main_arg7) (ix1 l)
  lam l := m ((c : Thread nD τ).loc main_arg8) (ix1 l)
  g l := m ((c : Thread nD τ).loc main_arg9) (ix1 l)

theorem idx : ∀ t : Fin cfg0.N, win0_0.index t = ![t.val, 0] ∧ win0_1.index t = ![t.val, 0] ∧ win0_2.index t = ![0, 0]
    ∧ win0_3.index t = ![0, 0] ∧ win0_4.index t = ![0, 0, 0] ∧ win0_5.index t = ![0, 0] ∧ win0_6.index t = ![0, 0, 0]
    ∧ win0_7.index t = ![0, 0] ∧ win0_8.index t = ![0, 0] ∧ win0_9.index t = ![0, 0] :=
  (by decide +kernel : ∀ t : Fin grid0.N, _)

/-- Row `256 t + p` of a stream is row `256 (t mod 16) + p` of batch entry `t / 16`. -/
theorem row_eq (t : Fin cfg0.N) (p : ℕ) (hp : p < 256) : Lru.row (t.val / 16) (256 * (t.val % 16) + p) = ⟨t.val * 256 + p, by
    have : t.val < 64 := t.isLt
    omega⟩ := Fin.ext (by
  have : t.val < 64 := t.isLt
  show (4096 * (t.val / 16) + (256 * (t.val % 16) + p)) % 16384 = t.val * 256 + p
  omega)

theorem read_x (c : Dev nD) (t : Fin cfg0.N) (p : Fin 256) (l : Fin 1024) :
    iblk m c 0 t (ix2 p l) = (args m c).X (Lru.row (t.val / 16) (256 * (t.val % 16) + p.val)) l := by
  rw [row_eq t p.val p.isLt]
  show _ = m ((c : Thread nD τ).loc main_arg0) (ix2 _ l)
  blk_ext [iblk, V, idx t]

theorem read_y (c : Dev nD) (t : Fin cfg0.N) (p : Fin 256) (l : Fin 1024) :
    iblk m c 1 t (ix2 p l) = (args m c).Y (Lru.row (t.val / 16) (256 * (t.val % 16) + p.val)) l := by
  rw [row_eq t p.val p.isLt]
  show _ = m ((c : Thread nD τ).loc main_arg1) (ix2 _ l)
  blk_ext [iblk, V, idx t]

theorem read_w (c : Dev nD) (t : Fin cfg0.N) (k : Fin 4) (l : Fin 1024) :
    iblk m c 2 t (ix2 k l) = (args m c).cw k l := by
  show _ = m ((c : Thread nD τ).loc main_arg2) (ix2 _ l)
  blk_ext [iblk, V, idx t]

theorem read_cb (c : Dev nD) (t : Fin cfg0.N) (l : Fin 1024) : iblk m c 3 t (ix2 0 l) = (args m c).cb l := by
  show _ = m ((c : Thread nD τ).loc main_arg3) (ix1 l)
  blk_simp [iblk]; entry_read; pointwise; blk_ext [idx t]

theorem read_wa (c : Dev nD) (t : Fin cfg0.N) (q : Fin 8) (k n : Fin 128) :
    iblk m c 4 t (ix3 q k n) = (args m c).wa q k n := by
  show _ = m ((c : Thread nD τ).loc main_arg4) (ix3 q k n)
  blk_simp [iblk]; entry_read; pointwise; blk_ext [idx t]

theorem read_ba (c : Dev nD) (t : Fin cfg0.N) (l : Fin 1024) : iblk m c 5 t (ix2 0 l) = (args m c).ba l := by
  show _ = m ((c : Thread nD τ).loc main_arg5) (ix1 l)
  blk_simp [iblk]; entry_read; pointwise; blk_ext [idx t]

theorem read_wx (c : Dev nD) (t : Fin cfg0.N) (q : Fin 8) (k n : Fin 128) :
    iblk m c 6 t (ix3 q k n) = (args m c).wx q k n := by
  show _ = m ((c : Thread nD τ).loc main_arg6) (ix3 q k n)
  blk_simp [iblk]; entry_read; pointwise; blk_ext [idx t]

theorem read_bx (c : Dev nD) (t : Fin cfg0.N) (l : Fin 1024) : iblk m c 7 t (ix2 0 l) = (args m c).bx l := by
  show _ = m ((c : Thread nD τ).loc main_arg7) (ix1 l)
  blk_simp [iblk]; entry_read; pointwise; blk_ext [idx t]

theorem read_lam (c : Dev nD) (t : Fin cfg0.N) (l : Fin 1024) : iblk m c 8 t (ix2 0 l) = (args m c).lam l := by
  show _ = m ((c : Thread nD τ).loc main_arg8) (ix1 l)
  blk_simp [iblk]; entry_read; pointwise; blk_ext [idx t]

theorem read_g (c : Dev nD) (t : Fin cfg0.N) (l : Fin 1024) : iblk m c 9 t (ix2 0 l) = (args m c).g l := by
  show _ = m ((c : Thread nD τ).loc main_arg9) (ix1 l)
  blk_simp [iblk]; entry_read; pointwise; blk_ext [idx t]

end Cert.KernelIdeal.Value
-- ==== Proof.Lru.Stores.lean ====
module

public import Idealize.ShloMosaic.Lib.Pipeline.ValueKit
public import Idealize.ShloMosaic.Lib.Pointwise

@[expose] public section

/-!
# Rows of a buffer written in row pieces

What the first piece of a list of stores leaves under its own rows, and off them.
-/

noncomputable section

open Idealize.ShloMosaic

namespace Cert.Lru

variable {Val : EltTy → Type} {e : EltTy} {d : Fin 2 → ℕ} [∀ e, Nonempty (Val e)]

/-- Row `o + x 0`, column `x 1` reads the piece's payload at `x`. -/
theorem rows_of_mem {off size : Fin 2 → ℕ} {o : ℕ} (inb : ∀ a : Fin 2, off a + size a ≤ d a)
    (w : (Rect.unit (s := ⟨2, d⟩) off size inb).shape.Idx → Val e) (L : List (View.Piece Val (⟨2, d⟩ : Shape) e))
    (y : (⟨2, d⟩ : Shape).Idx) (x : (Rect.unit (s := ⟨2, d⟩) off size inb).shape.Idx) (hoff : off = ![o, 0])
    (hx0 : (y (0 : Fin 2)).val = o + (x (0 : Fin 2)).val) (hx1 : (y (1 : Fin 2)).val = (x (1 : Fin 2)).val) :
    View.canon ((⟨Rect.unit (s := ⟨2, d⟩) off size inb, w⟩ : View.Piece Val (⟨2, d⟩ : Shape) e) :: L) y = w x := by
  subst hoff
  have hy : (Rect.unit (s := ⟨2, d⟩) ![o, 0] size inb).emb x = y := funext (Fin.forall_fin_two.mpr
    ⟨Fin.ext (by show o + 1 * (x 0).val = (y 0).val; rw [hx0, Nat.one_mul]),
      Fin.ext (by show 0 + 1 * (x 1).val = (y 1).val; rw [hx1, Nat.one_mul, Nat.zero_add])⟩)
  rw [← hy]
  exact View.canon_cons_emb _ w L x

/-- A row outside `[o, o + W)` reads what the other pieces leave. -/
theorem rows_of_not_mem {off size : Fin 2 → ℕ} {o W : ℕ} (inb : ∀ a : Fin 2, off a + size a ≤ d a)
    (w : (Rect.unit (s := ⟨2, d⟩) off size inb).shape.Idx → Val e) (L : List (View.Piece Val (⟨2, d⟩ : Shape) e))
    (y : (⟨2, d⟩ : Shape).Idx) (hoff : off = ![o, 0]) (hW : size (0 : Fin 2) = W)
    (h : (y (0 : Fin 2)).val < o ∨ o + W ≤ (y (0 : Fin 2)).val) :
    View.canon ((⟨Rect.unit (s := ⟨2, d⟩) off size inb, w⟩ : View.Piece Val (⟨2, d⟩ : Shape) e) :: L) y = View.canon L y := by
  subst hoff hW
  refine View.canon_cons_of_not_mem _ L ?_
  rw [Rect.mem_set_unit]
  intro hall
  have h0 := hall (0 : Fin 2)
  have e0 : (![o, 0] : Fin 2 → ℕ) 0 = o := rfl
  simp only [e0] at h0
  omega

end Cert.Lru
-- ==== Proof.Lru.Point.lean ====
module

public import proofs.«01_k».proof.Proof.Lru.Inputs
public import proofs.«01_k».proof.Proof.Lru.Stores
public import Idealize.ShloMosaic.Lib.WritesUnit

@[expose] public section

/-!
# One grid point of the kernel

What a grid point leaves in its output block and in the two carried buffers, by the recurrence: the first point of a
batch entry starts from zero rows and a zero state, every other one from what the point before it left.
-/

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- What the body stores and carries, written out over the vectors it loads. -/
theorem body_reads (A : Lru.Args) (b j : ℕ) (p : Fin 256) (r : Fin 8) (l : Fin 1024) (x y : FVec Ideal S256x1024 .f32)
    (cb w0 w1 w2 w3 : FVec Ideal S1x1024 .f32) (s5 s6 s7 : FVec Ideal S256x1024 .f32)
    (a0 a1 a2 a3 a4 a5 a6 a7 : FVec Ideal S1x128x128 .bf16) (ba : FVec Ideal S1x1024 .f32)
    (x0 x1 x2 x3 x4 x5 x6 x7 : FVec Ideal S1x128x128 .bf16) (bx lam g h0 : FVec Ideal S1x1024 .f32)
    (H : (Lru.Reads.mk x y cb w0 w1 w2 w3 s5 s6 s7 ![a0, a1, a2, a3, a4, a5, a6, a7] ba ![x0, x1, x2, x3, x4, x5, x6, x7] bx lam g
      h0).Of A b j) :
    let XC : FVec Ideal S256x1024 .f32 := k0_pay5 x cb w3 w0 s5 w1 s6 w2 s7
    let RG : FVec Ideal S256x1024 .f32 := k0_pay30 (k0_pay9 XC a0) (k0_pay12 XC a1) (k0_pay15 XC a2) (k0_pay18 XC a3)
      (k0_pay21 XC a4) (k0_pay24 XC a5) (k0_pay27 XC a6) (k0_pay29 XC) a7 ba
    let IG : FVec Ideal S256x1024 .f32 := k0_pay31 (k0_pay10 XC x0) (k0_pay13 XC x1) (k0_pay16 XC x2)
      (k0_pay19 (k0_pay17 XC) x3) (k0_pay22 XC x4) (k0_pay25 XC x5) (k0_pay28 XC x6) (k0_pay29 XC) x7 bx
    let io := iota Kind.tc S256x1 32 [0] iota_S256x1_d0_w32
    let P41 : FVec Ideal S256x1024 .f32 := k0_pay41 RG (k0_pay33 lam) (k0_pay34 lam)
    let SB : FVec Ideal S256x1024 .f32 := k0_pay54 io
      (k0_pay47 io (k0_pay40 XC RG IG (k0_pay33 lam) (k0_pay34 lam)) P41 4#32) (k0_pay48 io P41 4#32) 32#32
    let SA : FVec Ideal S256x1024 .f32 := k0_pay55 io (k0_pay48 io P41 4#32) 32#32
    (k0_pay1 (k0_pay58 SB SA h0 y) (k0_pay59 g) : FVec Ideal S256x1024 .bf16) (ix2 p l) = A.out b (256 * j + p.val) l ∧
      (k0_pay57 SB SA h0 : FVec Ideal S8x1024 .f32) (ix2 r l) = A.h b l (256 * (j + 1)) :=
  ⟨Lru.Reads.stored_spec H p l, Lru.Reads.carried_spec H r l⟩

/-- The rows kept for the next point are the block's last eight. -/
theorem kept_rows (c : Dev nD) (t : Fin cfg0.N) (r : Fin 264) (hr : r.val < 8) (l : Fin 1024) :
    (outsAt0 m c t.val t.isLt).2.1 (ix2 r l) = (args m c).X (Lru.row (t.val / 16) (256 * (t.val % 16) + (248 + r.val))) l := by
  have hx := (Lru.tail_read (iblk m c 0 t) (⟨r.val, hr⟩ : Fin 8) l).trans (read_x m c t (⟨248 + r.val, by omega⟩ : Fin 256) l)
  by_cases h : t.val % 16 = 0
  · rw [outsAt0_A m c t h]
    frame_out
    refine Eq.trans (Lru.rows_of_mem (o := 0) _ _ _ _ (ix2 (⟨r.val, hr⟩ : Fin 8) l) ?_ ?_ ?_) hx
    · rfl
    · exact (Nat.zero_add r.val).symm
    · rfl
  · rw [outsAt0_B m c t h]
    frame_out
    refine Eq.trans (Lru.rows_of_mem (o := 0) _ _ _ _ (ix2 (⟨r.val, hr⟩ : Fin 8) l) ?_ ?_ ?_) hx
    · rfl
    · exact (Nat.zero_add r.val).symm
    · rfl

/-- A shifted row of the block lies in the block, in the rows kept from the block before it, or before the sequence. -/
theorem shifted (A : Lru.Args) (b j k : ℕ) (p : Fin 256) (l : Fin 1024) (hk : k ≤ 3) (v : EReal)
    (h1 : k ≤ p.val → v = A.X (Lru.row b (256 * j + (p.val - k))) l)
    (h2 : p.val < k → j = 0 → v = 0)
    (h3 : p.val < k → j ≠ 0 → v = A.X (Lru.row b (256 * (j - 1) + (248 + (8 - k + p.val)))) l) :
    v = A.sh k b (256 * j + p.val) l := by
  unfold Lru.Args.sh
  by_cases hp : k ≤ p.val
  · rw [if_pos (by omega), h1 hp]
    exact congrArg (fun s => A.X (Lru.row b s) l) (by omega)
  · by_cases hj : j = 0
    · rw [if_neg (by omega), h2 (by omega) hj]
    · rw [if_pos (by omega), h3 (by omega) hj]
      exact congrArg (fun s => A.X (Lru.row b s) l) (by omega)

/-- Row `p` of a load of 256 rows from row `d` on is row `d + p` of the buffer. -/
theorem load_row (d : ℕ) (inb) (p : Fin 256) (l : Fin 1024) (q : Fin 264) (hq : q.val = d + p.val) :
    (Rect.unit (s := S264x1024) ![d, 0] ![256, 1024] inb).idx (ix2 p l) = ix2 q l :=
  funext (Fin.forall_fin_two.mpr
    ⟨Fin.ext (by show d + 1 * p.val = q.val; omega), Fin.ext (by show 0 + 1 * l.val = l.val; omega)⟩)

/-- Shifted rows loaded at the first point of a batch entry: the rows before the block are zero. -/
theorem load_first (A : Lru.Args) (b j : ℕ) (hj : j = 0) (k d : ℕ) (hk : k ≤ 3) (hd : d + k = 8) (inb) (inb') (inb'')
    (x : FVec Ideal S256x1024 .f32) (hx : ∀ p l, x (ix2 p l) = A.X (Lru.row b (256 * j + p.val)) l) (p : Fin 256) (l : Fin 1024) :
    (View.whole cc0_scratch0).readCov [(⟨Rect.unit (s := S264x1024) ![8, 0] ![256, 1024] inb, k0_pay4 (F := Ideal) x⟩ : View.Piece (Elt Ideal) S264x1024 .f32),
      ⟨Rect.unit (s := S264x1024) ![0, 0] ![8, 1024] inb', k0_pay2 (F := Ideal)⟩]
      (Rect.unit (s := S264x1024) ![d, 0] ![256, 1024] inb'').toLoadRect (ix2 p l) = A.sh k b (256 * j + p.val) l := by
  rw [View.readCov_eq_canon']
  refine Eq.trans (congrArg (View.canon _) (load_row d inb'' p l ⟨d + p.val, by omega⟩ rfl)) ?_
  refine shifted A b j k p l hk _ (fun h => ?_) (fun h _ => ?_) (fun _ h => absurd hj h)
  · refine Eq.trans (Lru.rows_of_mem (o := 8) _ _ _ _ (ix2 (⟨p.val - k, by omega⟩ : Fin 256) l) ?_ ?_ ?_) ?_
    · rfl
    · show d + p.val = 8 + (p.val - k)
      omega
    · rfl
    exact (show k0_pay4 x (ix2 (⟨p.val - k, by omega⟩ : Fin 256) l) = x (ix2 (⟨p.val - k, by omega⟩ : Fin 256) l) by
      pointwise [k0_pay4]).trans (hx _ l)
  · refine Eq.trans (Lru.rows_of_not_mem (o := 8) (W := 256) _ _ _ _ ?_ ?_ ?_) ?_
    · rfl
    · rfl
    · exact .inl (by show d + p.val < 8; omega)
    refine Eq.trans (Lru.rows_of_mem (o := 0) _ _ _ _ (ix2 (⟨d + p.val, by omega⟩ : Fin 8) l) ?_ ?_ ?_) ?_
    · rfl
    · exact (Nat.zero_add (d + p.val)).symm
    · rfl
    pointwise [k0_pay2]

/-- Shifted rows loaded at a later point: the rows before the block are those the point before kept. -/
theorem load_later (A : Lru.Args) (b j : ℕ) (hj : j ≠ 0) (k d : ℕ) (hk : k ≤ 3) (hd : d + k = 8) (inb) (inb')
    (f : (View.whole cc0_scratch0).ty.Contents (Elt Ideal))
    (x : FVec Ideal S256x1024 .f32) (hx : ∀ p l, x (ix2 p l) = A.X (Lru.row b (256 * j + p.val)) l)
    (hf : ∀ (r : Fin 264), r.val < 8 → ∀ l, View.read (Elt Ideal) (View.whole cc0_scratch0) f (ix2 r l)
      = A.X (Lru.row b (256 * (j - 1) + (248 + r.val))) l) (p : Fin 256) (l : Fin 1024) :
    View.ld (View.read (Elt Ideal) (View.whole cc0_scratch0) ((View.whole cc0_scratch0).writes (Elt Ideal) f
      [⟨Rect.unit (s := S264x1024) ![8, 0] ![256, 1024] inb, k0_pay4 (F := Ideal) x⟩]))
      (Rect.unit (s := S264x1024) ![d, 0] ![256, 1024] inb') (ix2 p l) = A.sh k b (256 * j + p.val) l := by
  refine Eq.trans (congrArg (View.read (Elt Ideal) (View.whole cc0_scratch0) _) (load_row d inb' p l ⟨d + p.val, by omega⟩ rfl)) ?_
  refine shifted A b j k p l hk _ (fun h => ?_) (fun _ h => absurd h hj) (fun h _ => ?_)
  · refine Eq.trans (View.read_writes_cons_rows_of_mem (o := 8) _ _ _ _ _ _ (ix2 (⟨p.val - k, by omega⟩ : Fin 256) l) ?_ ?_ ?_) ?_
    · rfl
    · show d + p.val = 8 + (p.val - k)
      omega
    · rfl
    exact (show k0_pay4 x (ix2 (⟨p.val - k, by omega⟩ : Fin 256) l) = x (ix2 (⟨p.val - k, by omega⟩ : Fin 256) l) by
      pointwise [k0_pay4]).trans (hx _ l)
  · refine Eq.trans (View.read_writes_cons_rows_of_not_mem (o := 8) (W := 256) _ _ _ _ _ _ ?_ ?_ ?_) ?_
    · rfl
    · rfl
    · exact .inl (by show d + p.val < 8; omega)
    refine (hf (⟨d + p.val, by omega⟩ : Fin 264) (by show d + p.val < 8; omega) l).trans ?_
    exact congrArg (fun s => A.X (Lru.row b s) l) (by show 256 * (j - 1) + (248 + (d + p.val)) = _; omega)

/-- A load of one row of the taps. -/
theorem load_w (c : Dev nD) (t : Fin cfg0.N) (k : Fin 4) (o : ℕ) (ho : k.val = o) (inb) (l : Fin 1024) :
    View.ld (iblk m c 2 t) (Rect.unit (s := S4x1024) ![o, 0] ![1, 1024] inb) (ix2 0 l) = (args m c).cw k l := by
  subst ho
  exact (congrArg (iblk m c 2 t) (funext (Fin.forall_fin_two.mpr
    ⟨Fin.ext (by show k.val + 1 * 0 = k.val; omega), Fin.ext (by show 0 + 1 * l.val = l.val; omega)⟩))).trans (read_w m c t k l)

/-- A load of one square of a gate's weights. -/
theorem square (q : Fin 8) (inb) (k n : Fin 128) :
    (Rect.unit (s := S8x128x128) ![q.val, 0, 0] ![1, 128, 128] inb).idx (ix3 0 k n) = ix3 q k n := by
  funext a
  fin_cases a
  · exact Fin.ext (by show q.val + 1 * 0 = q.val; omega)
  · exact Fin.ext (by show 0 + 1 * k.val = k.val; omega)
  · exact Fin.ext (by show 0 + 1 * n.val = n.val; omega)

theorem load_wa (c : Dev nD) (t : Fin cfg0.N) (q : Fin 8) (o : ℕ) (ho : q.val = o) (inb) (k n : Fin 128) :
    View.ld (iblk m c 4 t) (Rect.unit (s := S8x128x128) ![o, 0, 0] ![1, 128, 128] inb) (ix3 0 k n) = (args m c).wa q k n := by
  subst ho
  exact (congrArg (iblk m c 4 t) (square q inb k n)).trans (read_wa m c t q k n)

theorem load_wx (c : Dev nD) (t : Fin cfg0.N) (q : Fin 8) (o : ℕ) (ho : q.val = o) (inb) (k n : Fin 128) :
    View.ld (iblk m c 6 t) (Rect.unit (s := S8x128x128) ![o, 0, 0] ![1, 128, 128] inb) (ix3 0 k n) = (args m c).wx q k n := by
  subst ho
  exact (congrArg (iblk m c 6 t) (square q inb k n)).trans (read_wx m c t q k n)

/-- What holds of each of eight listed things holds of the list. -/
theorem eight {α : Type} (P : Fin 8 → α → Prop) {x0 x1 x2 x3 x4 x5 x6 x7 : α} (h0 : P 0 x0) (h1 : P 1 x1) (h2 : P 2 x2)
    (h3 : P 3 x3) (h4 : P 4 x4) (h5 : P 5 x5) (h6 : P 6 x6) (h7 : P 7 x7) (q : Fin 8) :
    P q (![x0, x1, x2, x3, x4, x5, x6, x7] q) := by
  fin_cases q
  exacts [h0, h1, h2, h3, h4, h5, h6, h7]

/-- A load of the carried state's first row. -/
theorem state_row (inb) (l : Fin 1024) :
    (Rect.unit (s := S8x1024) ![0, 0] ![1, 1024] inb).idx (ix2 0 l) = ix2 (0 : Fin 8) l :=
  funext (Fin.forall_fin_two.mpr ⟨rfl, Fin.ext (by show 0 + 1 * l.val = l.val; omega)⟩)

/-- The state loaded at the first point of a batch entry is zero. -/
theorem state_first (inb) (inb') (l : Fin 1024) :
    (View.whole cc0_scratch1).readCov [(⟨Rect.unit (s := S8x1024) ![0, 0] ![8, 1024] inb, k0_pay3 (F := Ideal)⟩ :
      View.Piece (Elt Ideal) S8x1024 .f32)] (Rect.unit (s := S8x1024) ![0, 0] ![1, 1024] inb').toLoadRect (ix2 0 l) = (0 : EReal) := by
  rw [View.readCov_eq_canon']
  refine Eq.trans (congrArg (View.canon _) (state_row inb' l)) ?_
  refine Eq.trans (Lru.rows_of_mem (o := 0) _ _ _ _ (ix2 (0 : Fin 8) l) ?_ ?_ ?_) ?_
  · rfl
  · rfl
  · rfl
  pointwise [k0_pay3]

/-- The state loaded at a later point is the one carried to it. -/
theorem state_later (f : (View.whole cc0_scratch1).ty.Contents (Elt Ideal)) (inb) (l : Fin 1024) (v : EReal)
    (hf : View.read (Elt Ideal) (View.whole cc0_scratch1) f (ix2 (0 : Fin 8) l) = v) :
    View.ld (View.read (Elt Ideal) (View.whole cc0_scratch1) f)
      (Rect.unit (s := S8x1024) ![0, 0] ![1, 1024] inb) (ix2 0 l) = v :=
  Eq.trans (congrArg (View.read (Elt Ideal) (View.whole cc0_scratch1) f) (state_row inb l)) hf

set_option maxHeartbeats 1000000 in
/-- The first point of a batch entry. -/
theorem first (c : Dev nD) (t : Fin cfg0.N) (h : t.val % 16 = 0) (p : Fin 256) (r : Fin 8) (l : Fin 1024) :
    (outsAt0 m c t.val t.isLt).1 (ix2 p l) = (args m c).out (t.val / 16) (256 * (t.val % 16) + p.val) l ∧
      (outsAt0 m c t.val t.isLt).2.2 (ix2 r l) = (args m c).h (t.val / 16) l (256 * (t.val % 16 + 1)) := by
  have hx := read_x m c t
  rw [outsAt0_A m c t h]
  frame_out
  refine body_reads (args m c) (t.val / 16) (t.val % 16) p r l _ _ _ _ _ _ _ _ _ _ _ _ _ _ _ _ _ _ _ _ _ _ _ _ _ _ _ _ _ _ _ ?_
  refine ⟨hx, read_y m c t, read_cb m c t, load_w m c t 0 0 rfl _, load_w m c t 1 1 rfl _, load_w m c t 2 2 rfl _,
    load_w m c t 3 3 rfl _, ?_, ?_, ?_, ?_, read_ba m c t, ?_, read_bx m c t, read_lam m c t, read_g m c t, fun l => ?_⟩
  all_goals dsimp only
  · exact load_first (args m c) _ _ h 3 5 (by decide) rfl _ _ _ _ hx
  · exact load_first (args m c) _ _ h 2 6 (by decide) rfl _ _ _ _ hx
  · exact load_first (args m c) _ _ h 1 7 (by decide) rfl _ _ _ _ hx
  · exact eight (fun q (v : FVec Ideal S1x128x128 .bf16) => ∀ k n, v (ix3 0 k n) = (args m c).wa q k n) (load_wa m c t 0 0 rfl _) (load_wa m c t 1 1 rfl _)
      (load_wa m c t 2 2 rfl _) (load_wa m c t 3 3 rfl _) (load_wa m c t 4 4 rfl _) (load_wa m c t 5 5 rfl _)
      (load_wa m c t 6 6 rfl _) (load_wa m c t 7 7 rfl _)
  · exact eight (fun q (v : FVec Ideal S1x128x128 .bf16) => ∀ k n, v (ix3 0 k n) = (args m c).wx q k n) (load_wx m c t 0 0 rfl _) (load_wx m c t 1 1 rfl _)
      (load_wx m c t 2 2 rfl _) (load_wx m c t 3 3 rfl _) (load_wx m c t 4 4 rfl _) (load_wx m c t 5 5 rfl _)
      (load_wx m c t 6 6 rfl _) (load_wx m c t 7 7 rfl _)
  · exact (state_first _ _ l).trans (by rw [h]; rfl)

set_option maxHeartbeats 1000000 in
/-- A later point of a batch entry, from the state the point before it left. -/
theorem later (c : Dev nD) (t : Fin cfg0.N) (h : ¬t.val % 16 = 0) (p : Fin 256) (r : Fin 8) (l : Fin 1024)
    (hs : ∀ (hp : t.val - 1 < cfg0.N) l, (outsAt0 m c (t.val - 1) hp).2.2 (ix2 (0 : Fin 8) l)
      = (args m c).h (t.val / 16) l (256 * (t.val % 16))) :
    (outsAt0 m c t.val t.isLt).1 (ix2 p l) = (args m c).out (t.val / 16) (256 * (t.val % 16) + p.val) l ∧
      (outsAt0 m c t.val t.isLt).2.2 (ix2 r l) = (args m c).h (t.val / 16) l (256 * (t.val % 16 + 1)) := by
  have hx := read_x m c t
  have hpt : t.val - 1 < cfg0.N := by have := t.isLt; omega
  have hk := kept_rows m c ⟨t.val - 1, hpt⟩
  have hf : ∀ (r : Fin 264), r.val < 8 → ∀ l, (outsAt0 m c (t.val - 1) hpt).2.1 (ix2 r l)
      = (args m c).X (Lru.row (t.val / 16) (256 * (t.val % 16 - 1) + (248 + r.val))) l := fun r hr l => by
    have e1 : (t.val - 1) / 16 = t.val / 16 := by omega
    have e2 : (t.val - 1) % 16 = t.val % 16 - 1 := by omega
    have e3 := hk r hr l
    simp only [e1, e2] at e3
    exact e3
  have kept := fun (r : Fin 264) (hr : r.val < 8) (l : Fin 1024) =>
    (congrFun (Memref.IsWhole.read_unread (m := Memref.whole cc0_scratch0) (Memref.isWhole_whole _) (outsAt0 m c (t.val - 1) hpt).2.1) (ix2 r l)).trans (hf r hr l)
  have st := fun (l : Fin 1024) =>
    (congrFun (Memref.IsWhole.read_unread (m := Memref.whole cc0_scratch1) (Memref.isWhole_whole _) (outsAt0 m c (t.val - 1) hpt).2.2) (ix2 (0 : Fin 8) l)).trans (hs hpt l)
  clear hk hf hs
  rw [outsAt0_B m c t h]
  frame_out
  refine body_reads (args m c) (t.val / 16) (t.val % 16) p r l _ _ _ _ _ _ _ _ _ _ _ _ _ _ _ _ _ _ _ _ _ _ _ _ _ _ _ _ _ _ _ ?_
  refine ⟨hx, read_y m c t, read_cb m c t, load_w m c t 0 0 rfl _, load_w m c t 1 1 rfl _, load_w m c t 2 2 rfl _,
    load_w m c t 3 3 rfl _, ?_, ?_, ?_, ?_, read_ba m c t, ?_, read_bx m c t, read_lam m c t, read_g m c t, fun l => ?_⟩
  all_goals dsimp only
  · exact load_later (args m c) _ _ h 3 5 (by decide) rfl _ _ _ _ hx kept
  · exact load_later (args m c) _ _ h 2 6 (by decide) rfl _ _ _ _ hx kept
  · exact load_later (args m c) _ _ h 1 7 (by decide) rfl _ _ _ _ hx kept
  · exact eight (fun q (v : FVec Ideal S1x128x128 .bf16) => ∀ k n, v (ix3 0 k n) = (args m c).wa q k n) (load_wa m c t 0 0 rfl _) (load_wa m c t 1 1 rfl _)
      (load_wa m c t 2 2 rfl _) (load_wa m c t 3 3 rfl _) (load_wa m c t 4 4 rfl _) (load_wa m c t 5 5 rfl _)
      (load_wa m c t 6 6 rfl _) (load_wa m c t 7 7 rfl _)
  · exact eight (fun q (v : FVec Ideal S1x128x128 .bf16) => ∀ k n, v (ix3 0 k n) = (args m c).wx q k n) (load_wx m c t 0 0 rfl _) (load_wx m c t 1 1 rfl _)
      (load_wx m c t 2 2 rfl _) (load_wx m c t 3 3 rfl _) (load_wx m c t 4 4 rfl _) (load_wx m c t 5 5 rfl _)
      (load_wx m c t 6 6 rfl _) (load_wx m c t 7 7 rfl _)
  · exact state_later _ _ l _ (st l)

end Cert.KernelIdeal.Value
-- ==== Proof.Lru.KernelValue.lean ====
module

public import proofs.«01_k».proof.Proof.Lru.Point

@[expose] public section

/-!
# The kernel's result

By induction over the grid, every point leaves the recurrence's outputs in its block and the recurrence's state in the
carried buffer, so the kernel's result array holds the recurrence's outputs.
-/

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- Every point leaves its block's outputs and the state after its block. -/
theorem points (c : Dev nD) (n : ℕ) : ∀ (hn : n < cfg0.N) (p : Fin 256) (r : Fin 8) (l : Fin 1024),
    (outsAt0 m c n hn).1 (ix2 p l) = (args m c).out (n / 16) (256 * (n % 16) + p.val) l ∧
      (outsAt0 m c n hn).2.2 (ix2 r l) = (args m c).h (n / 16) l (256 * (n % 16 + 1)) := by
  induction n with
  | zero => exact fun hn p r l => first m c ⟨0, hn⟩ rfl p r l
  | succ n ih =>
    intro hn p r l
    by_cases h : (n + 1) % 16 = 0
    · exact first m c ⟨n + 1, hn⟩ h p r l
    · refine later m c ⟨n + 1, hn⟩ h p r l fun hp l => ?_
      have e := (ih (by omega) 0 0 l).2
      have e1 : n / 16 = (n + 1) / 16 := by omega
      have e2 : n % 16 + 1 = (n + 1) % 16 := by omega
      rw [e1, e2] at e
      exact e

/-- The kernel's result array, by the recurrence. -/
theorem result (c : Dev nD) (i : Fin 16384) (l : Fin 1024) :
    G10 m c (ix2 i l) = (args m c).out (i.val / 4096) (i.val % 4096) l := by
  have hi := i.isLt
  have hl := l.isLt
  have hr : pt10Of (ix2 i l) = i.val / 256 := by
    show 1 * (i.val / 256 - 0) + 1 * (l.val / 1024 - 0) = i.val / 256
    omega
  have hn : i.val / 256 < cfg0.N := by
    show i.val / 256 < 64
    omega
  have hloc : loc10Of (ix2 i l) = ix2 (⟨i.val % 256, by omega⟩ : Fin 256) l := by
    funext a
    fin_cases a
    · exact Fin.ext (by show i.val % 256 = i.val % 256; rfl)
    · exact Fin.ext (by show l.val % 1024 = l.val; omega)
  have hlt : pt10Of (ix2 i l) < cfg0.N := by rw [hr]; exact hn
  unfold G10
  rw [dif_pos hlt, ← outsAt0_sweep m c _ hlt, hloc]
  have e := (points m c _ hlt (⟨i.val % 256, by omega⟩ : Fin 256) 0 l).1
  refine e.trans ?_
  have e1 : i.val / 256 / 16 = i.val / 4096 := by omega
  have e2 : 256 * (i.val / 256 % 16) + i.val % 256 = i.val % 4096 := by omega
  rw [hr, e1]
  exact congrArg (fun s => (args m c).out (i.val / 4096) s l) e2

end Cert.KernelIdeal.Value
-- ==== Proof.Lru.RefPure.lean ====
module

public import proofs.«01_k».proof.Proof.Gen.ReferenceIdeal.Run
public import Idealize.ShloMosaic.Lib.Pipeline.ValueKit
public import proofs.«01_k».proof.Proof.Lru.Spec

@[expose] public section

/-!
# The reference's vectors, element by element

What the reference computes before its loop (the convolution, the two gates, the decay and the input of every step) and
after it (the gated output and its normalisation), read at a batch entry, a step and a channel.
-/

set_option maxRecDepth 16384

noncomputable section

open Idealize.ShloMosaic Idealize.ShloMosaic.TcCoe Idealize.SL.Sem

namespace Cert.ReferenceIdeal.Value

open Cert.ReferenceIdeal Cert.ReferenceIdeal.Gen

/-- The first stream with three zero rows before each sequence. -/
def padded (x : FVec Ideal S16384x1024 .f32) : FVec Ideal S4x4099x1024 .f32 :=
  pad S4x4099x1024 ![0, 3, 0] ![0, 0, 0] ![0, 0, 0] (shapeCast S4x4096x1024 x shapeCasts_S16384x1024_S4x4096x1024)
    (sitofp FTy.f32 (constantI S_ 32 0#32)) pads_S4x4096x1024_S4x4099x1024_000_300_000 h_S_

/-- A vector of one number per channel, at every row. -/
def rows (v : FVec Ideal S1024 .f32) : FVec Ideal S4x4096x1024 .f32 :=
  broadcastInDim S4x4096x1024 ![0, 1, 2] bcast_S1x1x1024_S4x4096x1024_0_1_2 (broadcastInDim S1x1x1024 ![2] bcast_S1024_S1x1x1024_2 v)

/-- A literal at every row and channel. -/
def splat (b : BitVec 32) : FVec Ideal S4x4096x1024 .f32 :=
  broadcastInDim S4x4096x1024 ![] bcast_S_S4x4096x1024 (constant S_ FTy.f32 b)

/-- The convolution. -/
def conv (x : FVec Ideal S16384x1024 .f32) (w : FVec Ideal S4x1024 .f32) (cb : FVec Ideal S1024 .f32) : FVec Ideal S4x4096x1024 .f32 :=
  addf (addf (addf (addf (rows cb)
    (mulf (rows (shapeCast S1024 (extractStridedSlice S1x1024 ![0, 0] w slices_S4x1024_S1x1024_0_0) shapeCasts_S1x1024_S1024))
      (extractStridedSlice S4x4096x1024 ![0, 0, 0] (padded x) slices_S4x4099x1024_S4x4096x1024_0_0_0)))
    (mulf (rows (shapeCast S1024 (extractStridedSlice S1x1024 ![1, 0] w slices_S4x1024_S1x1024_1_0) shapeCasts_S1x1024_S1024))
      (extractStridedSlice S4x4096x1024 ![0, 1, 0] (padded x) slices_S4x4099x1024_S4x4096x1024_0_1_0)))
    (mulf (rows (shapeCast S1024 (extractStridedSlice S1x1024 ![2, 0] w slices_S4x1024_S1x1024_2_0) shapeCasts_S1x1024_S1024))
      (extractStridedSlice S4x4096x1024 ![0, 2, 0] (padded x) slices_S4x4099x1024_S4x4096x1024_0_2_0)))
    (mulf (rows (shapeCast S1024 (extractStridedSlice S1x1024 ![3, 0] w slices_S4x1024_S1x1024_3_0) shapeCasts_S1x1024_S1024))
      (extractStridedSlice S4x4096x1024 ![0, 3, 0] (padded x) slices_S4x4099x1024_S4x4096x1024_0_3_0))

/-- A gate: a block-diagonal product, a bias and the logistic function. -/
def gated (v : FVec Ideal S4x4096x1024 .f32) (w : FVec Ideal S8x128x128 .f32) (bias : FVec Ideal S1024 .f32) : FVec Ideal S4x4096x1024 .f32 :=
  Host.divf (splat 0x3F800000#32) (addf (splat 0x3F800000#32) (Host.exp (Host.negf (addf
    (shapeCast S4x4096x1024 (transpose S4x4096x8x128 [2, 3, 0, 1]
      (Host.dotGeneral dot_S8x128x128_S4x4096x8x128_S8x128x4x4096_1_3_2_01_0_2 none w
        (shapeCast S4x4096x8x128 v shapeCasts_S4x4096x1024_S4x4096x8x128))
      transposes_S8x128x4x4096_S4x4096x8x128_2_3_0_1) shapeCasts_S4x4096x8x128_S4x4096x1024)
    (rows bias)))))

/-- A zero per channel. -/
def zeros : FVec Ideal S1024 .f32 := broadcastInDim S1024 ![] bcast_S_S1024 (constant S_ FTy.f32 0x00000000#32)

/-- The soft maximum of 0 and minus the decay parameter. -/
def softplus (lam : FVec Ideal S1024 .f32) : FVec Ideal S1024 .f32 :=
  select (cmpf CmpFPredicate.une (subf (Host.negf lam) zeros) (subf (Host.negf lam) zeros)) (addf (Host.negf lam) zeros)
    (addf (maximumf (Host.negf lam) zeros) (Host.log1p (Host.exp (Host.negf (Host.absf (subf (Host.negf lam) zeros))))))

/-- The logarithm of the decay. -/
def logA (r : FVec Ideal S4x4096x1024 .f32) (lam : FVec Ideal S1024 .f32) : FVec Ideal S4x4096x1024 .f32 :=
  mulf (mulf (splat 0xC1000000#32) r) (rows (softplus lam))

/-- The input of every step. -/
def input (la i v : FVec Ideal S4x4096x1024 .f32) : FVec Ideal S4x4096x1024 .f32 :=
  mulf (Host.sqrt (Host.negf (Host.expm1 (mulf (splat 0x40000000#32) la)))) (mulf i v)

/-- The ten arguments, by row and channel. -/
def argsOf (x y : FVec Ideal S16384x1024 .f32) (w : FVec Ideal S4x1024 .f32) (cb : FVec Ideal S1024 .f32)
    (wa : FVec Ideal S8x128x128 .f32) (ba : FVec Ideal S1024 .f32) (wx : FVec Ideal S8x128x128 .f32)
    (bx lam g : FVec Ideal S1024 .f32) : Lru.Args where
  X r l := x (ix2 r l)
  Y r l := y (ix2 r l)
  cw k l := w (ix2 k l)
  cb l := cb (ix1 l)
  wa q k n := wa (ix3 q k n)
  ba l := ba (ix1 l)
  wx q k n := wx (ix3 q k n)
  bx l := bx (ix1 l)
  lam l := lam (ix1 l)
  g l := g (ix1 l)

theorem row_of (b : Fin 4) (s : Fin 4096) : Lru.row b.val s.val = ⟨4096 * b.val + s.val, by omega⟩ :=
  Fin.ext (by show (4096 * b.val + s.val) % 16384 = 4096 * b.val + s.val; omega)

/-- A row of the padded stream, `k` rows back. -/
theorem padded_read (A : Lru.Args) (x : FVec Ideal S16384x1024 .f32) (hx : ∀ r l, x (ix2 r l) = A.X r l) (b : Fin 4)
    (s : Fin 4096) (l : Fin 1024) (k : ℕ) (q : Fin 4099) (hq : q.val + k = s.val + 3) (hk : k ≤ 3) :
    padded x (ix3 b q l) = A.sh k b.val s.val l := by
  have hs := s.isLt
  have hb := b.isLt
  pointwise [padded]
  unfold Lru.Args.sh
  by_cases h : k ≤ s.val
  · rw [dif_pos (by omega), if_pos h, hx]
    refine congrArg (fun r => A.X r l) (Fin.ext ?_)
    show b.val * 4096 + (q.val - 3) = (4096 * b.val + (s.val - k)) % 16384
    omega
  · rw [dif_neg (by omega), if_neg h]
    show (((0#32 : BitVec 32).toInt : ℝ) : EReal) = 0
    norm_num

theorem conv_read (A : Lru.Args) (x : FVec Ideal S16384x1024 .f32) (w : FVec Ideal S4x1024 .f32) (cb : FVec Ideal S1024 .f32)
    (hx : ∀ r l, x (ix2 r l) = A.X r l) (hw : ∀ k l, w (ix2 k l) = A.cw k l) (hc : ∀ l, cb (ix1 l) = A.cb l)
    (b : Fin 4) (s : Fin 4096) (l : Fin 1024) : conv x w cb (ix3 b s l) = A.cv b.val s.val l := by
  pointwise [conv, rows]
  rw [padded_read A x hx b s l 3 _ (by show s.val + 3 = _; rfl) (by decide),
    padded_read A x hx b s l 2 _ (by show 1 + s.val + 2 = _; omega) (by decide),
    padded_read A x hx b s l 1 _ (by show 2 + s.val + 1 = _; omega) (by decide),
    padded_read A x hx b s l 0 _ (by show 3 + s.val + 0 = _; omega) (by decide), hw, hw, hw, hw, hc]
  unfold Lru.Args.cv
  rw [show A.sh 0 b.val s.val l = A.X (Lru.row b.val s.val) l from if_pos (Nat.zero_le _)]
  generalize A.cb l = p, A.cw 0 l * A.sh 3 b.val s.val l = q0, A.cw 1 l * A.sh 2 b.val s.val l = q1,
    A.cw 2 l * A.sh 1 b.val s.val l = q2, A.cw 3 l * A.X (Lru.row b.val s.val) l = q3
  rw [add_right_comm (p + q0 + q1) q2 q3, add_right_comm (p + q0) q1 q3, add_right_comm p q0 q3]

theorem gated_read (A : Lru.Args) (v : FVec Ideal S4x4096x1024 .f32) (hv : ∀ b s l, v (ix3 b s l) = A.cv b.val s.val l)
    (w : FVec Ideal S8x128x128 .f32) (bias : FVec Ideal S1024 .f32) (W : Fin 8 → Fin 128 → Fin 128 → EReal) (B : Fin 1024 → EReal)
    (hw : ∀ q k n, w (ix3 q k n) = W q k n) (hb : ∀ l, bias (ix1 l) = B l) (b : Fin 4) (s : Fin 4096) (l : Fin 1024) :
    gated v w bias (ix3 b s l) = A.gate W B b.val s.val l := by
  pointwise [gated, rows, splat]
  unfold Lru.Args.gate Lru.sig
  rw [hb, zero_sub]
  refine congrArg (fun z => Ideal.div 1 (1 + Ideal.exp (-(z + B l)))) (Finset.sum_congr rfl fun k _ => ?_)
  rw [hw, hv, mul_comm]
  refine congrArg₂ (fun (x : Fin 1024) y => A.cv b.val s.val x * y) (Fin.ext ?_) rfl
  show l.val / 128 * 128 + k.val = 128 * (l.val / 128) + k.val
  omega

theorem softplus_read (lam : FVec Ideal S1024 .f32) (l : Fin 1024) : softplus lam (ix1 l) = Lru.rate (lam (ix1 l)) := by
  pointwise [softplus, zeros]
  rw [if_neg (fun h => h rfl)]
  unfold Lru.rate
  rw [zero_sub, zero_sub]
  rfl

theorem logA_read (A : Lru.Args) (r : FVec Ideal S4x4096x1024 .f32) (hr : ∀ b s l, r (ix3 b s l) = A.gate A.wa A.ba b.val s.val l)
    (lam : FVec Ideal S1024 .f32) (hl : ∀ l, lam (ix1 l) = A.lam l) (b : Fin 4) (s : Fin 4096) (l : Fin 1024) :
    logA r lam (ix3 b s l) = A.la b.val s.val l := by
  pointwise [logA, splat, rows]
  rw [hr, softplus_read, hl]
  rfl

theorem input_read (A : Lru.Args) (la i v : FVec Ideal S4x4096x1024 .f32) (hl : ∀ b s l, la (ix3 b s l) = A.la b.val s.val l)
    (hi : ∀ b s l, i (ix3 b s l) = A.gate A.wx A.bx b.val s.val l) (hv : ∀ b s l, v (ix3 b s l) = A.cv b.val s.val l)
    (b : Fin 4) (s : Fin 4096) (l : Fin 1024) : input la i v (ix3 b s l) = A.bb b.val l s.val := by
  pointwise [input, splat]
  rw [hl, hi, hv]
  unfold Lru.Args.bb Lru.feed
  rw [Lru.scale_eq Lru.minusTwo_eq Lru.two_eq (show A.la b.val s.val l ≤ 0 from Lru.logDecay_nonpos _ _)]
  rfl

/-- The gelu of the second stream. -/
def gelued (y : FVec Ideal S4x4096x1024 .f32) : FVec Ideal S4x4096x1024 .f32 :=
  mulf y (mulf (splat 0x3F000000#32) (addf (splat 0x3F800000#32) (Host.tanh (mulf (splat 0x3F4C422A#32)
    (addf y (mulf (splat 0x3D372713#32) (mulf (mulf y y) y)))))))

/-- The gated states. -/
def gatedStates (st : FVec Ideal S4096x4x1024 .f32) (y : FVec Ideal S16384x1024 .f32) : FVec Ideal S4x4096x1024 .f32 :=
  mulf (transpose S4x4096x1024 [1, 0, 2] st transposes_S4096x4x1024_S4x4096x1024_1_0_2)
    (gelued (shapeCast S4x4096x1024 y shapeCasts_S16384x1024_S4x4096x1024))

/-- The reciprocal root of every row's mean square. -/
def rootMean (z : FVec Ideal S4x4096x1024 .f32) : FVec Ideal S4x4096x1 .f32 :=
  Host.rsqrt (addf (Host.divf (broadcastInDim S4x4096x1 ![0, 1] bcast_S4x4096_S4x4096x1_0_1
    (Host.reduceAdd (mulf z z) (constant S_ FTy.f32 0x00000000#32) reducesTo_S4x4096x1024_S4x4096_d2 h_S_))
    (broadcastInDim S4x4096x1 ![] bcast_S_S4x4096x1 (constant S_ FTy.f32 0x44800000#32)))
    (broadcastInDim S4x4096x1 ![] bcast_S_S4x4096x1 (constant S_ FTy.f32 0x358637BD#32)))

/-- What the reference makes of the states after its loop. -/
def finish (z : FVec Ideal S4x4096x1024 .f32) (g : FVec Ideal S1024 .f32) : FVec Ideal S16384x1024 .bf16 :=
  truncf .bf16 (shapeCast S16384x1024 (mulf (mulf z
    (broadcastInDim S4x4096x1024 ![0, 1, 2] bcast_S4x4096x1_S4x4096x1024_0_1_2 (rootMean z))) (rows g))
    shapeCasts_S4x4096x1024_S16384x1024) bitsLt_bf16_f32

theorem gatedStates_read (A : Lru.Args) (st : FVec Ideal S4096x4x1024 .f32) (y : FVec Ideal S16384x1024 .f32)
    (hst : ∀ (s : Fin 4096) (b : Fin 4) l, st (ix3 s b l) = A.h b.val l (s.val + 1)) (hy : ∀ r l, y (ix2 r l) = A.Y r l)
    (b : Fin 4) (s : Fin 4096) (l : Fin 1024) : gatedStates st y (ix3 b s l) = A.y b.val s.val l := by
  pointwise [gatedStates, gelued, splat]
  have e : (⟨b.val * 4096 + s.val, by omega⟩ : Fin 16384) = Lru.row b.val s.val :=
    (Fin.ext (by show b.val * 4096 + s.val = 4096 * b.val + s.val; omega)).trans (row_of b s).symm
  rw [hst, hy, e]
  unfold Lru.Args.y Lru.gelu
  rw [mul_comm Lru.half, mul_assoc (A.Y (Lru.row b.val s.val) l) Lru.half]
  rfl

theorem finish_read (A : Lru.Args) (z : FVec Ideal S4x4096x1024 .f32) (hz : ∀ b s l, z (ix3 b s l) = A.y b.val s.val l)
    (g : FVec Ideal S1024 .f32) (hg : ∀ l, g (ix1 l) = A.g l) (i : Fin 16384) (l : Fin 1024) :
    finish z g (ix2 i l) = A.out (i.val / 4096) (i.val % 4096) l := by
  pointwise [finish, rootMean, rows]
  simp only [hz, hg]
  rfl

end Cert.ReferenceIdeal.Value
-- ==== Proof.Lru.RefValue.lean ====
module

public import proofs.«01_k».proof.Proof.Lru.RefPure
public import Idealize.ShloMosaic.Lib.WordCmp

@[expose] public section

/-!
# The reference's result

The reference's loop, one step of the recurrence a trip, by induction over its trips; then its result array, by the
recurrence.
-/

set_option maxRecDepth 16384

noncomputable section

open Idealize.ShloMosaic Idealize.ShloMosaic.TcCoe Idealize.SL.Sem Idealize.ShloMosaic.StableHlo Idealize.ShloMosaic.HostLoop

namespace Cert.ReferenceIdeal.Value

open Cert.ReferenceIdeal Cert.ReferenceIdeal.Gen

variable (m : (ℓ : Loc nD τ sig) → Buf (Elt Ideal) ℓ)

/-- The reference's arguments, by row and channel. -/
def args (c : Dev nD) : Lru.Args :=
  argsOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

/-- The convolution of the reference's first stream. -/
def convOf (c : Dev nD) : FVec Ideal S4x4096x1024 .f32 :=
  conv (m ((c.tc : Thread nD τ).loc main_arg0)) (m ((c.tc : Thread nD τ).loc main_arg2)) (m ((c.tc : Thread nD τ).loc main_arg3))

/-- The logarithm of the reference's decays. -/
def logOf (c : Dev nD) : FVec Ideal S4x4096x1024 .f32 :=
  logA (gated (convOf m c) (m ((c.tc : Thread nD τ).loc main_arg4)) (m ((c.tc : Thread nD τ).loc main_arg5)))
    (m ((c.tc : Thread nD τ).loc main_arg8))

theorem entry_a (c : Dev nD) : entryContents (preI (F := Ideal)) m c (Proc.devRef .tc main_v76_0) =
    transpose S4096x4x1024 [1, 0, 2] (Host.exp (F := Ideal) (φ := .f32) (logOf m c)) transposes_S4x4096x1024_S4096x4x1024_1_0_2 := by
  simp only [entryContents, afterL_cons, afterL_nil]
  after_reads_simp
  rfl

theorem entry_b (c : Dev nD) : entryContents (preI (F := Ideal)) m c (Proc.devRef .tc main_v76_1) =
    transpose S4096x4x1024 [1, 0, 2] (input (logOf m c) (gated (convOf m c) (m ((c.tc : Thread nD τ).loc main_arg6))
      (m ((c.tc : Thread nD τ).loc main_arg7))) (convOf m c)) transposes_S4x4096x1024_S4096x4x1024_1_0_2 := by
  simp only [entryContents, afterL_cons, afterL_nil]
  after_reads_simp
  rfl

theorem entry_h (c : Dev nD) : entryContents (preI (F := Ideal)) m c (Proc.devRef .tc main_v76_3) =
    broadcastInDim S4x1024 ![] bcast_S_S4x1024 (constant (F := Ideal) S_ FTy.f32 0x00000000#32) := by
  simp only [entryContents, afterL_cons, afterL_nil]
  after_reads_simp
  rfl

theorem conv_of (c : Dev nD) (b : Fin 4) (s : Fin 4096) (l : Fin 1024) : convOf m c (ix3 b s l) = (args m c).cv b.val s.val l :=
  conv_read (args m c) _ _ _ (fun _ _ => rfl) (fun _ _ => rfl) (fun _ => rfl) b s l

theorem log_of (c : Dev nD) (b : Fin 4) (s : Fin 4096) (l : Fin 1024) : logOf m c (ix3 b s l) = (args m c).la b.val s.val l :=
  logA_read (args m c) _ (gated_read (args m c) _ (conv_of m c) _ _ _ _ (fun _ _ _ => rfl) (fun _ => rfl)) _ (fun _ => rfl) b s l

theorem entry_a_read (c : Dev nD) (s : Fin 4096) (b : Fin 4) (l : Fin 1024) :
    (entryContents (preI (F := Ideal)) m c (Proc.devRef .tc main_v76_0) : FVec Ideal S4096x4x1024 .f32) (ix3 s b l)
      = (args m c).a b.val l s.val := by
  rw [entry_a]
  pointwise
  rw [log_of]
  rfl

theorem entry_b_read (c : Dev nD) (s : Fin 4096) (b : Fin 4) (l : Fin 1024) :
    (entryContents (preI (F := Ideal)) m c (Proc.devRef .tc main_v76_1) : FVec Ideal S4096x4x1024 .f32) (ix3 s b l)
      = (args m c).bb b.val l s.val := by
  rw [entry_b]
  pointwise
  exact input_read (args m c) _ _ _ (log_of m c)
    (gated_read (args m c) _ (conv_of m c) _ _ _ _ (fun _ _ _ => rfl) (fun _ => rfl)) (conv_of m c) b s l

theorem entry_h_read (c : Dev nD) (b : Fin 4) (l : Fin 1024) :
    (entryContents (preI (F := Ideal)) m c (Proc.devRef .tc main_v76_3) : FVec Ideal S4x1024 .f32) (ix2 b l) = (0 : EReal) := by
  rw [entry_h]
  pointwise

/-- The start of a trip's slice: the trip's number, and 0. -/
def start (i : IVec S_ 32) : Fin 3 → ℤ := fun j =>
  ((![i, constantI S_ 32 0#32, constantI S_ 32 0#32] : Fin 3 → IVec S_ 32) j (Shape.Idx.first h_S_)).toInt

theorem start_at (i : IVec S_ 32) (k : ℕ) (hk : k < 4096) (hi : ∀ x, i x = BitVec.ofNat 32 k) (h) :
    Host.clampedStart S4096x4x1024 S1x4x1024 h (start i) 0 = k ∧ Host.clampedStart S4096x4x1024 S1x4x1024 h (start i) 1 = 0
      ∧ Host.clampedStart S4096x4x1024 S1x4x1024 h (start i) 2 = 0 := by
  refine ⟨Host.clampedStart_of_le _ _ _ _ ?_ ?_, Host.clampedStart_of_le _ _ _ _ rfl ?_,
    Host.clampedStart_of_le _ _ _ _ rfl ?_⟩
  · show (i _).toInt = k
    rw [hi, WordCmp.toInt_ofNat_of_lt (by omega)]
  · show k + 1 ≤ 4096
    omega
  · show 0 + 4 ≤ 4
    omega
  · show 0 + 1024 ≤ 1024
    omega

/-- The next state, from the coefficients at trip `k`. -/
theorem next_state (a bb : FVec Ideal S4096x4x1024 .f32) (h : FVec Ideal S4x1024 .f32) (i : IVec S_ 32) (k : ℕ) (hk : k < 4096)
    (hi : ∀ x, i x = BitVec.ofNat 32 k) (fa) (sa) (b : Fin 4) (l : Fin 1024) :
    (addf (mulf (shapeCast S4x1024 (Host.dynamicSlice S1x4x1024 a (start i) fa) sa) h)
      (shapeCast S4x1024 (Host.dynamicSlice S1x4x1024 bb (start i) fa) sa) : FVec Ideal S4x1024 .f32) (ix2 b l)
      = a (ix3 ⟨k, hk⟩ b l) * h (ix2 b l) + bb (ix3 ⟨k, hk⟩ b l) := by
  pointwise
  obtain ⟨e0, e1, e2⟩ := start_at i k hk hi fa.1
  simp only [e0, e1, e2, zero_add]

/-- The states after trip `k`: its own row is the new state. -/
theorem next_states (st : FVec Ideal S4096x4x1024 .f32) (h : FVec Ideal S4x1024 .f32) (i : IVec S_ 32) (k : ℕ) (hk : k < 4096)
    (hi : ∀ x, i x = BitVec.ofNat 32 k) (fa) (s : Fin 4096) (b : Fin 4) (l : Fin 1024) :
    (Host.dynamicUpdateSlice st (broadcastInDim S1x4x1024 ![1, 2] bcast_S4x1024_S1x4x1024_1_2 h) (start i) fa :
      FVec Ideal S4096x4x1024 .f32) (ix3 s b l) = if s.val = k then h (ix2 b l) else st (ix3 s b l) := by
  pointwise
  obtain ⟨e0, e1, e2⟩ := start_at i k hk hi fa.1
  simp only [e0, e1, e2, Nat.sub_zero]
  by_cases hs : s.val = k
  · rw [if_pos hs, dif_pos (by omega)]
  · rw [if_neg hs, dif_neg (by omega)]

/-- The contents after `k` trips. -/
abbrev trips (c : Dev nD) (k : ℕ) : Valuation τ sig (Elt Ideal) := STEP^[k] (entryContents preI m c)

theorem trips_succ (c : Dev nD) (k : ℕ) : trips m c (k + 1) = STEP (trips m c k) := Function.iterate_succ_apply' _ _ _

theorem trips_a (c : Dev nD) (k : ℕ) : trips m c k (Proc.devRef .tc main_v76_0) = entryContents preI m c (Proc.devRef .tc main_v76_0) := by
  induction k with
  | zero => rfl
  | succ k ih => rw [trips_succ, STEP_main_v76_0, ih]

theorem trips_b (c : Dev nD) (k : ℕ) : trips m c k (Proc.devRef .tc main_v76_1) = entryContents preI m c (Proc.devRef .tc main_v76_1) := by
  induction k with
  | zero => rfl
  | succ k ih => rw [trips_succ, STEP_main_v76_1, ih]

theorem trips_i (c : Dev nD) (k : ℕ) : ∀ x, (trips m c k (Proc.devRef .tc main_v76_2) : IVec S_ 32) x = BitVec.ofNat 32 k := by
  induction k with
  | zero => exact fun x => congrFun (ctr_entry m c) x
  | succ k ih =>
    intro x
    rw [trips_succ, STEP_main_v76_2]
    have e : (trips m c k (Proc.devRef .tc main_v76_2) : IVec S_ 32) = fun _ => BitVec.ofNat 32 k := funext ih
    unfold step_main_v76_2
    rw [e, BitVec.ofNat_add]
    rfl

/-- The state and the states after `k` trips. -/
theorem trips_h (c : Dev nD) (k : ℕ) (hk : k ≤ 4096) (b : Fin 4) (l : Fin 1024) :
    (trips m c k (Proc.devRef .tc main_v76_3) : FVec Ideal S4x1024 .f32) (ix2 b l) = (args m c).h b.val l k := by
  induction k with
  | zero => exact entry_h_read m c b l
  | succ k ih =>
    rw [trips_succ, STEP_main_v76_3]
    refine (next_state _ _ _ _ k (by omega) (trips_i m c k) _ _ b l).trans ?_
    rw [trips_a, trips_b, ih (by omega)]
    refine Ideal.add_congr (Ideal.mul_congr (entry_a_read m c ⟨k, by omega⟩ b l) rfl) (entry_b_read m c ⟨k, by omega⟩ b l)

theorem trips_states (c : Dev nD) (k : ℕ) (hk : k ≤ 4096) (s : Fin 4096) (hs : s.val < k) (b : Fin 4) (l : Fin 1024) :
    (trips m c k (Proc.devRef .tc main_v76_4) : FVec Ideal S4096x4x1024 .f32) (ix3 s b l) = (args m c).h b.val l (s.val + 1) := by
  induction k with
  | zero => exact absurd hs (Nat.not_lt_zero _)
  | succ k ih =>
    rw [trips_succ, STEP_main_v76_4]
    refine (next_states _ _ _ k (by omega) (trips_i m c k) updateFits_S4096x4x1024_S1x4x1024 s b l).trans ?_
    by_cases e : s.val = k
    · rw [if_pos e, e]
      have := trips_h m c (k + 1) hk b l
      rw [trips_succ, STEP_main_v76_3] at this
      exact this
    · rw [if_neg e]
      exact ih (by omega) (by omega)

/-- The reference's result array, by the recurrence. -/
theorem result (c : Dev nD) (i : Fin 16384) (l : Fin 1024) :
    (out_main_v107 (trips m c 4096) : FVec Ideal S16384x1024 .bf16) (ix2 i l) = (args m c).out (i.val / 4096) (i.val % 4096) l := by
  have e : out_main_v107 (trips m c 4096) = finish (gatedStates (trips m c 4096 (Proc.devRef .tc main_v76_4))
      (trips m c 4096 (Proc.devRef .tc main_arg1))) (trips m c 4096 (Proc.devRef .tc main_arg9)) := rfl
  rw [e, show trips m c 4096 (Proc.devRef .tc main_arg1) = _ from iter_main_arg1 m c 4096,
    show trips m c 4096 (Proc.devRef .tc main_arg9) = _ from iter_main_arg9 m c 4096]
  exact finish_read (args m c) _ (gatedStates_read (args m c) _ _
    (fun s b l => trips_states m c 4096 (le_refl _) s s.isLt b l) (fun _ _ => rfl)) _ (fun _ => rfl) i l

end Cert.ReferenceIdeal.Value
-- ==== Proof.Proj.Spec.lean ====
module

public import Idealize.ShloMosaic.Lib.Pointwise

@[expose] public section

/-!
# The two projections, row by row

The normalised and modulated row that the input projection multiplies and the output projection returns, as a function of
one row of numbers.
-/

noncomputable section

open Idealize.ShloMosaic

namespace Cert.Proj

/-- The row's length and the normalisation's small constant, as both programs write them. -/
def width : EReal := Ideal.ofBits .f32 0x45000000#32
def eps : EReal := Ideal.ofBits .f32 0x358637BD#32

/-- A row over its root mean square, times the gain, scaled by one plus `sc` and shifted by `sh`. -/
def modulated (x g sc sh : Fin 2048 → EReal) (k : Fin 2048) : EReal :=
  x k * Ideal.rsqrt (Ideal.div (∑ j, x j * x j) width + eps) * g k * (1 + sc k) + sh k

/-- The input projection's arguments: the rows, the gain, the shift and scale of each batch entry, the matrix. -/
structure In where
  X : Fin 4 → Fin 4096 → Fin 2048 → EReal
  G : Fin 2048 → EReal
  Sh : Fin 4 → Fin 2048 → EReal
  Sc : Fin 4 → Fin 2048 → EReal
  W : Fin 2048 → Fin 3328 → EReal

/-- The batch entry and the place in its sequence of a row. -/
def ent (i : Fin 16384) : Fin 4 := ⟨i.val / 4096, by omega⟩
def pos (i : Fin 16384) : Fin 4096 := ⟨i.val % 4096, by omega⟩

/-- The projection of row `i` on column `n`. -/
def In.out (A : In) (i : Fin 16384) (n : Fin 3328) : EReal :=
  ∑ k, modulated (A.X (ent i) (pos i)) A.G (A.Sc (ent i)) (A.Sh (ent i)) k * A.W k n

/-- The output projection's arguments: the two normalised streams, the rows they are added to, the matrix, the gate of
    each batch entry, and the second normalisation's gain, shift and scale. -/
structure Out where
  L : Fin 16384 → Fin 1024 → EReal
  A : Fin 16384 → Fin 1024 → EReal
  X : Fin 4 → Fin 4096 → Fin 2048 → EReal
  W : Fin 2048 → Fin 2048 → EReal
  Ga : Fin 4 → Fin 2048 → EReal
  G : Fin 2048 → EReal
  Sh : Fin 4 → Fin 2048 → EReal
  Sc : Fin 4 → Fin 2048 → EReal

/-- The first and the second half of the matrix's rows. -/
def lower (k : Fin 1024) : Fin 2048 := ⟨k.val, by omega⟩
def upper (k : Fin 1024) : Fin 2048 := ⟨1024 + k.val, by omega⟩

/-- The residual stream after the mixers. -/
def Out.mid (B : Out) (i : Fin 16384) (n : Fin 2048) : EReal :=
  B.X (ent i) (pos i) n + B.Ga (ent i) n * (∑ k, B.L i k * B.W (lower k) n + ∑ k, B.A i k * B.W (upper k) n)

/-- The same, normalised and modulated. -/
def Out.out (B : Out) (i : Fin 16384) (n : Fin 2048) : EReal :=
  modulated (B.mid i) B.G (B.Sc (ent i)) (B.Sh (ent i)) n

end Cert.Proj
-- ==== Proof.Proj.InKernel.lean ====
module

public import proofs.«01_k».proof.Proof.Gen.Kernel2Ideal.Value
public import Idealize.ShloMosaic.Lib.Pipeline.ValueKit
public import proofs.«01_k».proof.Proof.Proj.Spec

@[expose] public section

/-!
# What the input projection's kernel computes

Grid point `t` normalises rows `256 t` to `256 t + 255` and multiplies them by four ranges of the matrix's columns.
-/

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen

variable (m : (ℓ : Loc nD τ sig) → Buf (Elt Ideal) ℓ)

/-- The kernel's arguments, by their coordinates. -/
def args (c : Dev nD) : Proj.In where
  X b s k := m ((c : Thread nD τ).loc main_arg0) (ix3 b s k)
  G k := m ((c : Thread nD τ).loc main_arg1) (ix1 k)
  Sh b k := m ((c : Thread nD τ).loc main_arg2) (ix2 b k)
  Sc b k := m ((c : Thread nD τ).loc main_arg3) (ix2 b k)
  W k n := m ((c : Thread nD τ).loc main_arg4) (ix2 k n)

theorem idx : ∀ t : Fin cfg0.N, win0_0.index t = ![t.val, 0] ∧ win0_1.index t = ![0, 0] ∧ win0_2.index t = ![t.val / 16, 0, 0]
    ∧ win0_3.index t = ![t.val / 16, 0, 0] ∧ win0_4.index t = ![0, 0] ∧ win0_5.index t = ![t.val, 0]
    ∧ win0_6.index t = ![t.val, 0] ∧ win0_7.index t = ![t.val, 0] ∧ win0_8.index t = ![t.val, 0] :=
  (by decide +kernel : ∀ t : Fin grid0.N, _)

/-- Row `p` of grid point `t`'s block. -/
def row (t : Fin cfg0.N) (p : Fin 256) : Fin 16384 := ⟨t.val * 256 + p.val, by
  have : t.val < 64 := t.isLt
  omega⟩

theorem read_x (c : Dev nD) (t : Fin cfg0.N) (p : Fin 256) (k : Fin 2048) :
    iblk m c 0 t (ix2 p k) = (args m c).X (Proj.ent (row t p)) (Proj.pos (row t p)) k := by
  have ht : t.val < 64 := t.isLt
  show _ = m ((c : Thread nD τ).loc main_arg0) (ix3 ⟨(t.val * 256 + p.val) / 4096, _⟩ ⟨(t.val * 256 + p.val) % 4096, _⟩ k)
  blk_simp [iblk]; entry_read; pointwise; blk_ext [idx t]

theorem read_g (c : Dev nD) (t : Fin cfg0.N) (k : Fin 2048) : iblk m c 1 t (ix2 0 k) = (args m c).G k := by
  show _ = m ((c : Thread nD τ).loc main_arg1) (ix1 k)
  blk_simp [iblk]; entry_read; pointwise; blk_ext [idx t]

theorem read_sh (c : Dev nD) (t : Fin cfg0.N) (p : Fin 256) (k : Fin 2048) :
    iblk m c 2 t (ix3 0 0 k) = (args m c).Sh (Proj.ent (row t p)) k := by
  have ht : t.val < 64 := t.isLt
  show _ = m ((c : Thread nD τ).loc main_arg2) (ix2 ⟨(t.val * 256 + p.val) / 4096, _⟩ k)
  blk_simp [iblk]; entry_read; pointwise; blk_ext [idx t]

theorem read_sc (c : Dev nD) (t : Fin cfg0.N) (p : Fin 256) (k : Fin 2048) :
    iblk m c 3 t (ix3 0 0 k) = (args m c).Sc (Proj.ent (row t p)) k := by
  have ht : t.val < 64 := t.isLt
  show _ = m ((c : Thread nD τ).loc main_arg3) (ix2 ⟨(t.val * 256 + p.val) / 4096, _⟩ k)
  blk_simp [iblk]; entry_read; pointwise; blk_ext [idx t]

theorem read_w (c : Dev nD) (t : Fin cfg0.N) (k : Fin 2048) (n : Fin 3328) : iblk m c 4 t (ix2 k n) = (args m c).W k n := by
  show _ = m ((c : Thread nD τ).loc main_arg4) (ix2 k n)
  blk_simp [iblk]; entry_read; pointwise; blk_ext [idx t]

/-- The normalised and modulated rows of a point. -/
theorem hidden (c : Dev nD) (t : Fin cfg0.N) (p : Fin 256) (k : Fin 2048) :
    k0_pay3 (iblk m c 0 t) (iblk m c 1 t) (iblk m c 3 t) (iblk m c 2 t) (ix2 p k)
      = Proj.modulated ((args m c).X (Proj.ent (row t p)) (Proj.pos (row t p))) (args m c).G ((args m c).Sc (Proj.ent (row t p)))
          ((args m c).Sh (Proj.ent (row t p))) k := by
  unfold Proj.modulated Proj.width Proj.eps
  pointwise [k0_pay3]
  simp only [read_x, read_g, read_sh m c t p, read_sc m c t p]

/-- A point's rows times a column of the matrix are the projection of those rows on it. -/
theorem column (c : Dev nD) (t : Fin cfg0.N) (p : Fin 256) (v : Fin 2048 → EReal) (r : Fin 16384) (n : Fin 3328)
    (hr : r.val = t.val * 256 + p.val) (hv : ∀ k, v k = iblk m c 4 t (ix2 k n)) :
    (∑ k, k0_pay3 (iblk m c 0 t) (iblk m c 1 t) (iblk m c 3 t) (iblk m c 2 t) (ix2 p k) * v k : EReal)
      = (args m c).out r n := by
  obtain rfl : r = row t p := Fin.ext hr
  simp only [hidden, hv, read_w]
  rfl

/-- A block of rows times 1024 columns, and times 256. -/
theorem wide (h : FVec Ideal S256x2048 .bf16) (w : FVec Ideal S2048x1024 .bf16) (p : Fin 256) (n : Fin 1024) :
    k0_pay1 h w (ix2 p n) = ∑ k : Fin 2048, h (ix2 p k) * w (ix2 k n) := by
  pointwise [k0_pay1]

theorem narrow (h : FVec Ideal S256x2048 .bf16) (w : FVec Ideal S2048x256 .bf16) (p : Fin 256) (n : Fin 256) :
    k0_pay2 h w (ix2 p n) = ∑ k : Fin 2048, h (ix2 p k) * w (ix2 k n) := by
  pointwise [k0_pay2]

/-- The normalised rows, by the name that the last two products know them by. -/
theorem rows (x : Vec Ideal S256x2048 .f32) (g : Vec Ideal S1x2048 .f32) (sh sc : Vec Ideal S1x1x2048 .f32)
    (w : Vec Ideal S2048x3328 .bf16) : k0_pay6 (F := Ideal) x g sh sc w = k0_pay3 x g sc sh := by
  unfold k0_pay6
  frame_out

/-- The product's first 1024 columns. -/
theorem result5 (c : Dev nD) (i : Fin 16384) (n : Fin 1024) :
    (dats m 0 c).arrAt 5 cfg0.N (ix2 i n) = (args m c).out i ⟨n.val, by omega⟩ := by
  refine congrFun ((dats m 0 c).arrAt_eq_of_covers 5 (fun j : S16384x1024.Idx => (args m c).out ⟨(j 0).val, (j 0).isLt⟩
    ⟨(j 1).val, by have h : (j 1).val < 1024 := (j 1).isLt; omega⟩) (by decide +kernel) fun t hf y => ?_) (ix2 i n)
  blk_simp
  rw [after0_5]
  frame_out
  idx_vars y
  simp only [idx t]
  refine Eq.trans (wide (k0_pay3 (iblk m c 0 t) (iblk m c 1 t) (iblk m c 3 t) (iblk m c 2 t)) _ y0 y1) ?_
  refine column m c t y0 (fun k => View.ld (iblk m c 4 t) r0_3 (ix2 k y1)) _ _ rfl fun k => ?_
  pointwise
  blk_ext

/-- The product's next 1024 columns. -/
theorem result6 (c : Dev nD) (i : Fin 16384) (n : Fin 1024) :
    (dats m 0 c).arrAt 6 cfg0.N (ix2 i n) = (args m c).out i ⟨1024 + n.val, by omega⟩ := by
  refine congrFun ((dats m 0 c).arrAt_eq_of_covers 6 (fun j : S16384x1024.Idx => (args m c).out ⟨(j 0).val, (j 0).isLt⟩
    ⟨1024 + (j 1).val, by have h : (j 1).val < 1024 := (j 1).isLt; omega⟩) (by decide +kernel) fun t hf y => ?_) (ix2 i n)
  blk_simp
  rw [after0_6]
  frame_out
  idx_vars y
  simp only [idx t]
  refine Eq.trans (wide (k0_pay3 (iblk m c 0 t) (iblk m c 1 t) (iblk m c 3 t) (iblk m c 2 t)) _ y0 y1) ?_
  refine column m c t y0 (fun k => View.ld (iblk m c 4 t) r0_5 (ix2 k y1)) _ _ rfl fun k => ?_
  pointwise
  blk_ext

/-- The product's third 1024 columns. -/
theorem result7 (c : Dev nD) (i : Fin 16384) (n : Fin 1024) :
    (dats m 0 c).arrAt 7 cfg0.N (ix2 i n) = (args m c).out i ⟨2048 + n.val, by omega⟩ := by
  refine congrFun ((dats m 0 c).arrAt_eq_of_covers 7 (fun j : S16384x1024.Idx => (args m c).out ⟨(j 0).val, (j 0).isLt⟩
    ⟨2048 + (j 1).val, by have h : (j 1).val < 1024 := (j 1).isLt; omega⟩) (by decide +kernel) fun t hf y => ?_) (ix2 i n)
  blk_simp
  rw [after0_7]
  frame_out
  idx_vars y
  simp only [idx t]
  rw [rows]
  refine Eq.trans (wide (k0_pay3 (iblk m c 0 t) (iblk m c 1 t) (iblk m c 3 t) (iblk m c 2 t)) _ y0 y1) ?_
  refine column m c t y0 (fun k => View.ld (iblk m c 4 t) r0_6 (ix2 k y1)) _ _ rfl fun k => ?_
  pointwise
  blk_ext

/-- The product's last 256 columns. -/
theorem result8 (c : Dev nD) (i : Fin 16384) (n : Fin 256) :
    (dats m 0 c).arrAt 8 cfg0.N (ix2 i n) = (args m c).out i ⟨3072 + n.val, by omega⟩ := by
  refine congrFun ((dats m 0 c).arrAt_eq_of_covers 8 (fun j : S16384x256.Idx => (args m c).out ⟨(j 0).val, (j 0).isLt⟩
    ⟨3072 + (j 1).val, by have h : (j 1).val < 256 := (j 1).isLt; omega⟩) (by decide +kernel) fun t hf y => ?_) (ix2 i n)
  blk_simp
  rw [after0_8]
  frame_out
  idx_vars y
  simp only [idx t]
  rw [rows]
  refine Eq.trans (narrow (k0_pay3 (iblk m c 0 t) (iblk m c 1 t) (iblk m c 3 t) (iblk m c 2 t)) _ y0 y1) ?_
  refine column m c t y0 (fun k => View.ld (iblk m c 4 t) r0_7 (ix2 k y1)) _ _ rfl fun k => ?_
  pointwise
  blk_ext

end Cert.Kernel2Ideal.Value
-- ==== Proof.Proj.InReference.lean ====
module

public import proofs.«01_k».proof.Proof.Gen.Reference2Ideal.Run
public import Idealize.ShloMosaic.Lib.Pipeline.ValueKit
public import proofs.«01_k».proof.Proof.Proj.Spec

@[expose] public section

/-!
# What the input projection's reference computes
-/

set_option maxRecDepth 16384

noncomputable section

open Idealize.ShloMosaic Idealize.ShloMosaic.TcCoe Idealize.SL.Sem

namespace Cert.Reference2Ideal.Value

open Cert.Reference2Ideal Cert.Reference2Ideal.Gen

/-- A row over its root mean square, times the gain, scaled and shifted, at every row. -/
def hidden (x : FVec Ideal S4x4096x2048 .f32) (g : FVec Ideal S2048 .f32) (sh sc : FVec Ideal S4x2048 .f32) : FVec Ideal S4x4096x2048 .f32 :=
  addf (mulf (mulf (mulf x (broadcastInDim S4x4096x2048 ![0, 1, 2] bcast_S4x4096x1_S4x4096x2048_0_1_2 (Host.rsqrt (addf
      (Host.divf (broadcastInDim S4x4096x1 ![0, 1] bcast_S4x4096_S4x4096x1_0_1
        (Host.reduceAdd (mulf x x) (constant S_ .f32 0x00000000#32) reducesTo_S4x4096x2048_S4x4096_d2 h_S_))
        (broadcastInDim S4x4096x1 ![] bcast_S_S4x4096x1 (constant S_ .f32 0x45000000#32)))
      (broadcastInDim S4x4096x1 ![] bcast_S_S4x4096x1 (constant S_ .f32 0x358637BD#32))))))
    (broadcastInDim S4x4096x2048 ![0, 1, 2] bcast_S1x1x2048_S4x4096x2048_0_1_2 (broadcastInDim S1x1x2048 ![2] bcast_S2048_S1x1x2048_2 g)))
    (broadcastInDim S4x4096x2048 ![0, 1, 2] bcast_S4x1x2048_S4x4096x2048_0_1_2 (addf
      (broadcastInDim S4x1x2048 ![] bcast_S_S4x1x2048 (constant S_ .f32 0x3F800000#32))
      (broadcastInDim S4x1x2048 ![0, 2] bcast_S4x2048_S4x1x2048_0_2 sc))))
    (broadcastInDim S4x4096x2048 ![0, 1, 2] bcast_S4x1x2048_S4x4096x2048_0_1_2 (broadcastInDim S4x1x2048 ![0, 2] bcast_S4x2048_S4x1x2048_0_2 sh))

theorem hidden_read (x : FVec Ideal S4x4096x2048 .f32) (g : FVec Ideal S2048 .f32) (sh sc : FVec Ideal S4x2048 .f32)
    (b : Fin 4) (s : Fin 4096) (k : Fin 2048) : hidden x g sh sc (ix3 b s k)
      = Proj.modulated (fun k => x (ix3 b s k)) (fun k => g (ix1 k)) (fun k => sc (ix2 b k)) (fun k => sh (ix2 b k)) k := by
  unfold Proj.modulated Proj.width Proj.eps
  pointwise [hidden]

/-- The projection. -/
def product (x : FVec Ideal S4x4096x2048 .f32) (g : FVec Ideal S2048 .f32) (sh sc : FVec Ideal S4x2048 .f32)
    (w : FVec Ideal S2048x3328 .f32) : FVec Ideal S4x4096x3328 .f32 :=
  Host.dotGeneral dot_S4x4096x2048_S2048x3328_S4x4096x3328_2_0_01_1_n_n none (hidden x g sh sc) w

/-- The arguments, by their coordinates. -/
def argsOf (x : FVec Ideal S4x4096x2048 .f32) (g : FVec Ideal S2048 .f32) (sh sc : FVec Ideal S4x2048 .f32)
    (w : FVec Ideal S2048x3328 .f32) : Proj.In where
  X b s k := x (ix3 b s k)
  G k := g (ix1 k)
  Sh b k := sh (ix2 b k)
  Sc b k := sc (ix2 b k)
  W k n := w (ix2 k n)

theorem product_read (x : FVec Ideal S4x4096x2048 .f32) (g : FVec Ideal S2048 .f32) (sh sc : FVec Ideal S4x2048 .f32)
    (w : FVec Ideal S2048x3328 .f32) (b : Fin 4) (s : Fin 4096) (n : Fin 3328) (i : Fin 16384) (hb : b = Proj.ent i)
    (hs : s = Proj.pos i) : product x g sh sc w (ix3 b s n) = (argsOf x g sh sc w).out i n := by
  subst hb hs
  pointwise [product]
  simp only [hidden_read]
  rfl

/-- A range of 1024 columns, row by row, and one of 256. -/
theorem wide (x : FVec Ideal S4x4096x2048 .f32) (g : FVec Ideal S2048 .f32) (sh sc : FVec Ideal S4x2048 .f32)
    (w : FVec Ideal S2048x3328 .f32) (o : ℕ) (hsl) (i : Fin 16384) (n : Fin 1024) (q : Fin 3328) (hq : q.val = o + n.val) :
    shapeCast S16384x1024 (extractStridedSlice S4x4096x1024 ![0, 0, o] (product x g sh sc w) hsl)
      shapeCasts_S4x4096x1024_S16384x1024 (ix2 i n) = (argsOf x g sh sc w).out i q := by
  rw [← product_read x g sh sc w (Proj.ent i) (Proj.pos i) q i rfl rfl]
  generalize product x g sh sc w = v
  pointwise
  blk_ext [Proj.ent, Proj.pos]

theorem narrow (x : FVec Ideal S4x4096x2048 .f32) (g : FVec Ideal S2048 .f32) (sh sc : FVec Ideal S4x2048 .f32)
    (w : FVec Ideal S2048x3328 .f32) (o : ℕ) (hsl) (i : Fin 16384) (n : Fin 256) (q : Fin 3328) (hq : q.val = o + n.val) :
    shapeCast S16384x256 (extractStridedSlice S4x4096x256 ![0, 0, o] (product x g sh sc w) hsl)
      shapeCasts_S4x4096x256_S16384x256 (ix2 i n) = (argsOf x g sh sc w).out i q := by
  rw [← product_read x g sh sc w (Proj.ent i) (Proj.pos i) q i rfl rfl]
  generalize product x g sh sc w = v
  pointwise
  blk_ext [Proj.ent, Proj.pos]

end Cert.Reference2Ideal.Value
-- ==== Proof.Proj.OutKernel.lean ====
module

public import proofs.«01_k».proof.Proof.Gen.Kernel3Ideal.Value
public import Idealize.ShloMosaic.Lib.Pipeline.ValueKit
public import proofs.«01_k».proof.Proof.Proj.Spec

@[expose] public section

/-!
# What the output projection's kernel computes

Grid point `t` adds the product of rows `256 t` to `256 t + 255` of the two streams to those rows of the residual stream,
and normalises them.
-/

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen

variable (m : (ℓ : Loc nD τ sig) → Buf (Elt Ideal) ℓ)

/-- The kernel's arguments, by their coordinates. -/
def args (c : Dev nD) : Proj.Out where
  L i k := m ((c : Thread nD τ).loc main_arg0) (ix2 i k)
  A i k := m ((c : Thread nD τ).loc main_arg1) (ix2 i k)
  X b s k := m ((c : Thread nD τ).loc main_arg2) (ix3 b s k)
  W k n := m ((c : Thread nD τ).loc main_arg3) (ix2 k n)
  Ga b k := m ((c : Thread nD τ).loc main_arg4) (ix2 b k)
  G k := m ((c : Thread nD τ).loc main_arg5) (ix1 k)
  Sh b k := m ((c : Thread nD τ).loc main_arg6) (ix2 b k)
  Sc b k := m ((c : Thread nD τ).loc main_arg7) (ix2 b k)

theorem idx : ∀ t : Fin cfg0.N, win0_0.index t = ![t.val, 0] ∧ win0_1.index t = ![t.val, 0] ∧ win0_2.index t = ![t.val, 0]
    ∧ win0_3.index t = ![0, 0] ∧ win0_4.index t = ![t.val / 16, 0, 0] ∧ win0_5.index t = ![0, 0]
    ∧ win0_6.index t = ![t.val / 16, 0, 0] ∧ win0_7.index t = ![t.val / 16, 0, 0] ∧ win0_8.index t = ![t.val, 0]
    ∧ win0_9.index t = ![t.val, 0] :=
  (by decide +kernel : ∀ t : Fin grid0.N, _)

/-- Row `p` of grid point `t`'s block. -/
def row (t : Fin cfg0.N) (p : Fin 256) : Fin 16384 := ⟨t.val * 256 + p.val, by
  have : t.val < 64 := t.isLt
  omega⟩

theorem read_l (c : Dev nD) (t : Fin cfg0.N) (p : Fin 256) (k : Fin 1024) : iblk m c 0 t (ix2 p k) = (args m c).L (row t p) k := by
  show _ = m ((c : Thread nD τ).loc main_arg0) (ix2 ⟨t.val * 256 + p.val, _⟩ k)
  blk_ext [iblk, V, idx t]

theorem read_a (c : Dev nD) (t : Fin cfg0.N) (p : Fin 256) (k : Fin 1024) : iblk m c 1 t (ix2 p k) = (args m c).A (row t p) k := by
  show _ = m ((c : Thread nD τ).loc main_arg1) (ix2 ⟨t.val * 256 + p.val, _⟩ k)
  blk_ext [iblk, V, idx t]

theorem read_x (c : Dev nD) (t : Fin cfg0.N) (p : Fin 256) (k : Fin 2048) :
    iblk m c 2 t (ix2 p k) = (args m c).X (Proj.ent (row t p)) (Proj.pos (row t p)) k := by
  have ht : t.val < 64 := t.isLt
  show _ = m ((c : Thread nD τ).loc main_arg2) (ix3 ⟨(t.val * 256 + p.val) / 4096, _⟩ ⟨(t.val * 256 + p.val) % 4096, _⟩ k)
  blk_simp [iblk]; entry_read; pointwise; blk_ext [idx t]

theorem read_w (c : Dev nD) (t : Fin cfg0.N) (k n : Fin 2048) : iblk m c 3 t (ix2 k n) = (args m c).W k n := by
  show _ = m ((c : Thread nD τ).loc main_arg3) (ix2 k n)
  blk_simp [iblk]; entry_read; pointwise; blk_ext [idx t]

theorem read_ga (c : Dev nD) (t : Fin cfg0.N) (p : Fin 256) (k : Fin 2048) :
    iblk m c 4 t (ix3 0 0 k) = (args m c).Ga (Proj.ent (row t p)) k := by
  have ht : t.val < 64 := t.isLt
  show _ = m ((c : Thread nD τ).loc main_arg4) (ix2 ⟨(t.val * 256 + p.val) / 4096, _⟩ k)
  blk_simp [iblk]; entry_read; pointwise; blk_ext [idx t]

theorem read_g (c : Dev nD) (t : Fin cfg0.N) (k : Fin 2048) : iblk m c 5 t (ix2 0 k) = (args m c).G k := by
  show _ = m ((c : Thread nD τ).loc main_arg5) (ix1 k)
  blk_simp [iblk]; entry_read; pointwise; blk_ext [idx t]

theorem read_sh (c : Dev nD) (t : Fin cfg0.N) (p : Fin 256) (k : Fin 2048) :
    iblk m c 6 t (ix3 0 0 k) = (args m c).Sh (Proj.ent (row t p)) k := by
  have ht : t.val < 64 := t.isLt
  show _ = m ((c : Thread nD τ).loc main_arg6) (ix2 ⟨(t.val * 256 + p.val) / 4096, _⟩ k)
  blk_simp [iblk]; entry_read; pointwise; blk_ext [idx t]

theorem read_sc (c : Dev nD) (t : Fin cfg0.N) (p : Fin 256) (k : Fin 2048) :
    iblk m c 7 t (ix3 0 0 k) = (args m c).Sc (Proj.ent (row t p)) k := by
  have ht : t.val < 64 := t.isLt
  show _ = m ((c : Thread nD τ).loc main_arg7) (ix2 ⟨(t.val * 256 + p.val) / 4096, _⟩ k)
  blk_simp [iblk]; entry_read; pointwise; blk_ext [idx t]

theorem read_lower (c : Dev nD) (t : Fin cfg0.N) (k : Fin 1024) (n : Fin 2048) :
    View.ld (iblk m c 3 t) r0_1 (ix2 k n) = (args m c).W (Proj.lower k) n := by
  rw [← read_w m c t]
  pointwise
  blk_ext [Proj.lower]

theorem read_upper (c : Dev nD) (t : Fin cfg0.N) (k : Fin 1024) (n : Fin 2048) :
    View.ld (iblk m c 3 t) r0_2 (ix2 k n) = (args m c).W (Proj.upper k) n := by
  rw [← read_w m c t]
  pointwise
  blk_ext [Proj.upper]

/-- The rows of a point after the product is added. -/
theorem mid (c : Dev nD) (t : Fin cfg0.N) (p : Fin 256) (n : Fin 2048) :
    k0_pay2 (iblk m c 0 t) (View.ld (iblk m c 3 t) r0_1) (iblk m c 1 t) (View.ld (iblk m c 3 t) r0_2) (iblk m c 2 t)
      (iblk m c 4 t) (ix2 p n) = (args m c).mid (row t p) n := by
  generalize hu : View.ld (iblk m c 3 t) r0_1 = u
  generalize hv : View.ld (iblk m c 3 t) r0_2 = v
  pointwise [k0_pay2]
  subst hu hv
  simp only [read_l, read_a, read_x, read_ga m c t p, read_lower, read_upper]
  rfl

/-- The same, normalised and modulated. -/
theorem normed (c : Dev nD) (t : Fin cfg0.N) (p : Fin 256) (n : Fin 2048) :
    k0_pay1 (k0_pay3 (iblk m c 0 t) (View.ld (iblk m c 3 t) r0_1) (iblk m c 1 t) (View.ld (iblk m c 3 t) r0_2) (iblk m c 2 t)
      (iblk m c 4 t) (iblk m c 5 t)) (k0_pay4 (iblk m c 7 t)) (iblk m c 6 t) (ix2 p n) = (args m c).out (row t p) n := by
  pointwise [k0_pay1, k0_pay3, k0_pay4]
  simp only [mid, read_g, read_sh m c t p, read_sc m c t p]
  rfl

/-- The residual stream after the mixers. -/
theorem result8 (c : Dev nD) (i : Fin 16384) (n : Fin 2048) :
    (dats m 0 c).arrAt 8 cfg0.N (ix2 i n) = (args m c).mid i n := by
  refine congrFun ((dats m 0 c).arrAt_eq_of_covers 8 (fun j : S16384x2048.Idx => (args m c).mid ⟨(j 0).val, (j 0).isLt⟩
    ⟨(j 1).val, (j 1).isLt⟩) (by decide +kernel) fun t hf y => ?_) (ix2 i n)
  blk_simp
  rw [after0_8]
  frame_out
  idx_vars y
  simp only [idx t]
  refine Eq.trans (mid m c t y0 y1) (congrArg ((args m c).mid (row t y0)) (Fin.ext ?_))
  show y1.val = 0 * 2048 + y1.val
  omega

/-- The normalised rows. -/
theorem result9 (c : Dev nD) (i : Fin 16384) (n : Fin 2048) :
    (dats m 0 c).arrAt 9 cfg0.N (ix2 i n) = (args m c).out i n := by
  refine congrFun ((dats m 0 c).arrAt_eq_of_covers 9 (fun j : S16384x2048.Idx => (args m c).out ⟨(j 0).val, (j 0).isLt⟩
    ⟨(j 1).val, (j 1).isLt⟩) (by decide +kernel) fun t hf y => ?_) (ix2 i n)
  blk_simp
  rw [after0_9]
  frame_out
  idx_vars y
  simp only [idx t]
  refine Eq.trans (normed m c t y0 y1) (congrArg ((args m c).out (row t y0)) (Fin.ext ?_))
  show y1.val = 0 * 2048 + y1.val
  omega

end Cert.Kernel3Ideal.Value
-- ==== Proof.Proj.OutReference.lean ====
module

public import proofs.«01_k».proof.Proof.Gen.Reference3Ideal.Run
public import Idealize.ShloMosaic.Lib.Pipeline.ValueKit
public import proofs.«01_k».proof.Proof.Proj.Spec

@[expose] public section

/-!
# What the output projection's reference computes
-/

set_option maxRecDepth 16384

noncomputable section

open Idealize.ShloMosaic Idealize.ShloMosaic.TcCoe Idealize.SL.Sem

namespace Cert.Reference3Ideal.Value

open Cert.Reference3Ideal Cert.Reference3Ideal.Gen

/-- A row over its root mean square, times the gain, scaled and shifted, at every row. -/
def hidden (x : FVec Ideal S4x4096x2048 .f32) (g : FVec Ideal S2048 .f32) (sh sc : FVec Ideal S4x2048 .f32) : FVec Ideal S4x4096x2048 .f32 :=
  addf (mulf (mulf (mulf x (broadcastInDim S4x4096x2048 ![0, 1, 2] bcast_S4x4096x1_S4x4096x2048_0_1_2 (Host.rsqrt (addf
      (Host.divf (broadcastInDim S4x4096x1 ![0, 1] bcast_S4x4096_S4x4096x1_0_1
        (Host.reduceAdd (mulf x x) (constant S_ .f32 0x00000000#32) reducesTo_S4x4096x2048_S4x4096_d2 h_S_))
        (broadcastInDim S4x4096x1 ![] bcast_S_S4x4096x1 (constant S_ .f32 0x45000000#32)))
      (broadcastInDim S4x4096x1 ![] bcast_S_S4x4096x1 (constant S_ .f32 0x358637BD#32))))))
    (broadcastInDim S4x4096x2048 ![0, 1, 2] bcast_S1x1x2048_S4x4096x2048_0_1_2 (broadcastInDim S1x1x2048 ![2] bcast_S2048_S1x1x2048_2 g)))
    (broadcastInDim S4x4096x2048 ![0, 1, 2] bcast_S4x1x2048_S4x4096x2048_0_1_2 (addf
      (broadcastInDim S4x1x2048 ![] bcast_S_S4x1x2048 (constant S_ .f32 0x3F800000#32))
      (broadcastInDim S4x1x2048 ![0, 2] bcast_S4x2048_S4x1x2048_0_2 sc))))
    (broadcastInDim S4x4096x2048 ![0, 1, 2] bcast_S4x1x2048_S4x4096x2048_0_1_2 (broadcastInDim S4x1x2048 ![0, 2] bcast_S4x2048_S4x1x2048_0_2 sh))

theorem hidden_read (x : FVec Ideal S4x4096x2048 .f32) (g : FVec Ideal S2048 .f32) (sh sc : FVec Ideal S4x2048 .f32)
    (b : Fin 4) (s : Fin 4096) (k : Fin 2048) : hidden x g sh sc (ix3 b s k)
      = Proj.modulated (fun k => x (ix3 b s k)) (fun k => g (ix1 k)) (fun k => sc (ix2 b k)) (fun k => sh (ix2 b k)) k := by
  unfold Proj.modulated Proj.width Proj.eps
  pointwise [hidden]

/-- The residual stream after the mixers: the product of the two streams side by side, gated and added. -/
def stream (l a : FVec Ideal S16384x1024 .bf16) (x : FVec Ideal S4x4096x2048 .f32) (w : FVec Ideal S2048x2048 .f32)
    (ga : FVec Ideal S4x2048 .f32) : FVec Ideal S4x4096x2048 .f32 :=
  addf x (mulf (broadcastInDim S4x4096x2048 ![0, 1, 2] bcast_S4x1x2048_S4x4096x2048_0_1_2
      (broadcastInDim S4x1x2048 ![0, 2] bcast_S4x2048_S4x1x2048_0_2 ga))
    (Host.dotGeneral dot_S4x4096x2048_S2048x2048_S4x4096x2048_2_0_01_1_n_n none
      (shapeCast S4x4096x2048 (concatenate S16384x2048 1 [⟨S16384x1024, (extf .f32 l bitsLt_bf16_f32)⟩,
        ⟨S16384x1024, (extf .f32 a bitsLt_bf16_f32)⟩] concatenates_S16384x1024_S16384x1024_S16384x2048_d1)
        shapeCasts_S16384x2048_S4x4096x2048) w))

/-- The arguments, by their coordinates. -/
def argsOf (l a : FVec Ideal S16384x1024 .bf16) (x : FVec Ideal S4x4096x2048 .f32) (w : FVec Ideal S2048x2048 .f32)
    (ga : FVec Ideal S4x2048 .f32) (g : FVec Ideal S2048 .f32) (sh sc : FVec Ideal S4x2048 .f32) : Proj.Out where
  L i k := l (ix2 i k)
  A i k := a (ix2 i k)
  X b s k := x (ix3 b s k)
  W k n := w (ix2 k n)
  Ga b k := ga (ix2 b k)
  G k := g (ix1 k)
  Sh b k := sh (ix2 b k)
  Sc b k := sc (ix2 b k)

theorem stream_read (l a : FVec Ideal S16384x1024 .bf16) (x : FVec Ideal S4x4096x2048 .f32) (w : FVec Ideal S2048x2048 .f32)
    (ga : FVec Ideal S4x2048 .f32) (g : FVec Ideal S2048 .f32) (sh sc : FVec Ideal S4x2048 .f32) (i : Fin 16384) (n : Fin 2048) :
    stream l a x w ga (ix3 (Proj.ent i) (Proj.pos i) n) = (argsOf l a x w ga g sh sc).mid i n := by
  pointwise [stream]
  have e (h) : (⟨(Proj.ent i).val * 4096 + (Proj.pos i).val, h⟩ : Fin 16384) = i :=
    Fin.ext (by show i.val / 4096 * 4096 + i.val % 4096 = i.val; omega)
  simp only [e]
  rfl

theorem first (l a : FVec Ideal S16384x1024 .bf16) (x : FVec Ideal S4x4096x2048 .f32) (w : FVec Ideal S2048x2048 .f32)
    (ga : FVec Ideal S4x2048 .f32) (g : FVec Ideal S2048 .f32) (sh sc : FVec Ideal S4x2048 .f32) (i : Fin 16384) (n : Fin 2048) :
    shapeCast S16384x2048 (stream l a x w ga) shapeCasts_S4x4096x2048_S16384x2048 (ix2 i n)
      = (argsOf l a x w ga g sh sc).mid i n := by
  rw [← stream_read]
  generalize stream l a x w ga = v
  pointwise
  blk_ext [Proj.ent, Proj.pos]

theorem second (l a : FVec Ideal S16384x1024 .bf16) (x : FVec Ideal S4x4096x2048 .f32) (w : FVec Ideal S2048x2048 .f32)
    (ga : FVec Ideal S4x2048 .f32) (g : FVec Ideal S2048 .f32) (sh sc : FVec Ideal S4x2048 .f32) (i : Fin 16384) (n : Fin 2048) :
    (truncf .bf16 (shapeCast S16384x2048 (hidden (stream l a x w ga) g sh sc) shapeCasts_S4x4096x2048_S16384x2048)
      bitsLt_bf16_f32 : FVec Ideal S16384x2048 .bf16) (ix2 i n) = (argsOf l a x w ga g sh sc).out i n := by
  have e : (argsOf l a x w ga g sh sc).out i n = hidden (stream l a x w ga) g sh sc (ix3 (Proj.ent i) (Proj.pos i) n) := by
    rw [hidden_read]
    simp only [stream_read l a x w ga g sh sc]
    rfl
  rw [e]
  generalize hidden (stream l a x w ga) g sh sc = v
  pointwise
  blk_ext [Proj.ent, Proj.pos]

end Cert.Reference3Ideal.Value
-- ==== Proof.Route.Spec.lean ====
module

public import Idealize.ShloMosaic.Lib.Pointwise

@[expose] public section

/-!
# The routing's scores against the second half of the keys, by their coordinates
-/

noncomputable section

open Idealize.ShloMosaic

namespace Cert.Route

/-- The routing's arguments that the scores take: the tokens' rows, the query matrix, and the second half of each head's keys. -/
structure In where
  H : Fin 16384 → Fin 2048 → EReal
  W : Fin 2048 → Fin 2048 → EReal
  K : Fin 8 → Fin 128 → Fin 128 → EReal

/-- The query matrix's column for coordinate `d` of head `h`'s second half-query. -/
def col (h : Fin 8) (d : Fin 128) : Fin 2048 := ⟨h.val * 256 + 128 + d.val, by omega⟩

/-- The score of key `k` of head `h` for token `t`. -/
def In.score (A : In) (h : Fin 8) (k : Fin 128) (t : Fin 16384) : EReal :=
  ∑ d, A.K h k d * ∑ j, A.H t j * A.W j (col h d)

/-- The exponential of one of a family of scores less the greatest of them, whose maximum starts at the float word of -∞. -/
def stabilised (s : Fin 128 → EReal) (k : Fin 128) : EReal :=
  Ideal.exp (s k - Finset.fold max (Ideal.ofBits .f32 0xFF800000#32) s Finset.univ)

/-- The stabilised score of key `k` of head `h` for token `t`. -/
def In.weight (A : In) (h : Fin 8) (k : Fin 128) (t : Fin 16384) : EReal := stabilised (fun k => A.score h k t) k

end Cert.Route
-- ==== Proof.Route.Kernel.lean ====
module

public import proofs.«01_k».proof.Proof.Gen.Kernel4Ideal.Value
public import Idealize.ShloMosaic.Lib.Pipeline.ValueKit
public import proofs.«01_k».proof.Proof.Route.Spec

@[expose] public section

/-!
# What the routing's kernel leaves in its fourth result

Grid point `t` takes 256 tokens. One trip of its loop takes a head: it multiplies the head's queries of these tokens by the
head's keys and writes, in two stores of 128 tokens each, the stabilised scores against the second half of the keys.
-/

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen

/-! ## One trip -/

/-- The scores of a head, of its queries' 256 rows, by the blocks that a grid point holds. -/
def blockScore (x0 : Vec Ideal S256x2048 .bf16) (x1 : Vec Ideal S8x2048x256 .bf16) (x2 : Vec Ideal S8x2x128x128 .bf16)
    (h : Fin 8) (k : Fin 128) (p : Fin 256) : EReal :=
  ∑ d : Fin 128, x2 (ix4 h 1 k d) * ∑ j : Fin 2048, x0 (ix2 p j) * x1 (ix3 h j ⟨128 + d.val, by omega⟩)

/-- The whole block that a grid point leaves in the fourth result. -/
def block (x0 : Vec Ideal S256x2048 .bf16) (x1 : Vec Ideal S8x2048x256 .bf16) (x2 : Vec Ideal S8x2x128x128 .bf16) :
    S8x128x256.Idx → EReal :=
  fun y => Route.stabilised (fun k => blockScore x0 x1 x2 ⟨(y 0).val, (y 0).isLt⟩ k ⟨(y 2).val, (y 2).isLt⟩) ⟨(y 1).val, (y 1).isLt⟩

/-- Where trip `k` reads and writes. -/
theorem offs : ∀ k : Fin k0_t1_loop.trips, k.val < 8 ∧ k0_off1 k = ![k.val, 0, 0] ∧ k0_off3 k = ![k.val, 1, 0, 0]
    ∧ k0_off4 k = ![k.val, 0, 0] ∧ k0_off5 k = ![k.val, 0, 128] := by
  decide +kernel

/-- The head of trip `k`. -/
def head (k : Fin k0_t1_loop.trips) : Fin 8 := ⟨k.val, (offs k).1⟩

theorem scores_read (x0 : Vec Ideal S256x2048 .bf16) (x1 : Vec Ideal S8x2048x256 .bf16) (x2 : Vec Ideal S8x2x128x128 .bf16)
    (k : Fin k0_t1_loop.trips) (n : Fin 128) (p : Fin 256) :
    k0_pay5 (F := Ideal) x0 (View.ld x1 (Rect.unit (k0_off1 k) ![1, 2048, 256] (k0_off1_inb k)))
      (View.ld x2 (Rect.unit (k0_off3 k) ![1, 1, 128, 128] (k0_off3_inb k))) (ix2 n p) = blockScore x0 x1 x2 (head k) n p := by
  unfold blockScore head
  pointwise [k0_pay5, k0_pay3]
  refine Finset.sum_congr rfl fun d _ => congrArg₂ (· * ·) ?_ (Finset.sum_congr rfl fun j _ => congrArg₂ (· * ·) rfl ?_)
  · blk_ext [offs k]
  · blk_ext [offs k]

/-- The first store's payload and the second's, of the scores of all 256 tokens. -/
theorem low (s : FVec Ideal S128x256 .f32) (k p : Fin 128) (q : Fin 256) (hq : q.val = p.val) :
    k0_pay199 (F := Ideal) (k0_pay195 (F := Ideal)
      (extractStridedSlice S128x128 ![0, 0] s slices_S128x256_o0_0_S128x128)
      (k0_pay66 (F := Ideal) (extractStridedSlice S128x128 ![0, 0] s slices_S128x256_o0_0_S128x128))) (ix3 0 k p)
      = Route.stabilised (fun k => s (ix2 k q)) k := by
  unfold Route.stabilised
  pointwise [k0_pay199, k0_pay195, k0_pay66]
  have e : q = ⟨p.val, Nat.lt_trans p.isLt (by decide)⟩ := Fin.ext hq
  rw [e]

theorem high (s : FVec Ideal S128x256 .f32) (k p : Fin 128) (q : Fin 256) (hq : q.val = 128 + p.val) :
    k0_pay2 (F := Ideal) (k0_pay379 (F := Ideal) (k0_pay201 (F := Ideal) s) (k0_pay261 (F := Ideal) (k0_pay201 (F := Ideal) s)))
      (ix3 0 k p) = Route.stabilised (fun k => s (ix2 k q)) k := by
  unfold Route.stabilised
  pointwise [k0_pay2, k0_pay379, k0_pay261, k0_pay201]
  have e : q = ⟨128 + p.val, Nat.add_lt_add_left p.isLt 128⟩ := Fin.ext hq
  rw [e]

theorem first (arg1 : Memref sig .tc .vmem S256x2048 .bf16) (harg1 : arg1.IsWhole)
    (arg2 : Memref sig .tc .vmem S8x2048x256 .bf16) (harg2 : arg2.IsWhole)
    (arg3 : Memref sig .tc .vmem S8x2x128x128 .bf16) (harg3 : arg3.IsWhole)
    (x0 : Vec Ideal S256x2048 .bf16) (x1 : Vec Ideal S8x2048x256 .bf16) (x2 : Vec Ideal S8x2x128x128 .bf16)
    (k : Fin k0_t1_loop.trips) (n p : Fin 128) (q : Fin 256) (hq : q.val = p.val) :
    k0_pay199 (F := Ideal) (trip_k0_t1.sl.r_111 arg1 arg2 arg3 (harg1.unread x0) (harg2.unread x1) (harg3.unread x2) k) (ix3 0 n p)
      = Route.stabilised (fun k' => blockScore x0 x1 x2 (head k) k' q) n := by
  unfold trip_k0_t1.sl.r_111 trip_k0_t1.sl.r_3 trip_k0_t1.sl.r_36
  frame_out
  refine (low _ n p q hq).trans ?_
  simp only [scores_read]

theorem second (arg1 : Memref sig .tc .vmem S256x2048 .bf16) (harg1 : arg1.IsWhole)
    (arg2 : Memref sig .tc .vmem S8x2048x256 .bf16) (harg2 : arg2.IsWhole)
    (arg3 : Memref sig .tc .vmem S8x2x128x128 .bf16) (harg3 : arg3.IsWhole)
    (x0 : Vec Ideal S256x2048 .bf16) (x1 : Vec Ideal S8x2048x256 .bf16) (x2 : Vec Ideal S8x2x128x128 .bf16)
    (k : Fin k0_t1_loop.trips) (n p : Fin 128) (q : Fin 256) (hq : q.val = 128 + p.val) :
    k0_pay2 (F := Ideal) (trip_k0_t1.sl.r_213 arg1 arg2 arg3 (harg1.unread x0) (harg2.unread x1) (harg3.unread x2) k) (ix3 0 n p)
      = Route.stabilised (fun k' => blockScore x0 x1 x2 (head k) k' q) n := by
  unfold trip_k0_t1.sl.r_213 trip_k0_t1.sl.r_113 trip_k0_t1.sl.r_146
  frame_out
  refine (high _ n p q hq).trans ?_
  simp only [scores_read]

/-- A block of 128 tokens' stabilised scores is `block` where the store puts it. -/
theorem place (x0 : Vec Ideal S256x2048 .bf16) (x1 : Vec Ideal S8x2048x256 .bf16) (x2 : Vec Ideal S8x2x128x128 .bf16)
    (k : Fin k0_t1_loop.trips) (o : ℕ) {off : Fin 3 → ℕ} (hoff : off = ![k.val, 0, o])
    (inb : ∀ d, off d + (![1, 128, 128] : Fin 3 → ℕ) d ≤ S8x128x256.size d) (v : Vec Ideal S1x128x128 .f32)
    (hv : ∀ (n p : Fin 128) (q : Fin 256), q.val = o + p.val →
      v (ix3 0 n p) = Route.stabilised (fun k' => blockScore x0 x1 x2 (head k) k' q) n)
    (x : (Rect.unit (s := S8x128x256) off ![1, 128, 128] inb).shape.Idx) :
    v x = block x0 x1 x2 ((Rect.unit (s := S8x128x256) off ![1, 128, 128] inb).emb x) := by
  subst hoff
  have h0 : (x 0).val = 0 := Nat.lt_one_iff.mp (x 0).isLt
  have hi : o + 128 ≤ 256 := inb 2
  have e : x = ix3 (0 : Fin 1) (⟨(x 1).val, (x 1).isLt⟩ : Fin 128) (⟨(x 2).val, (x 2).isLt⟩ : Fin 128) := by
    funext a
    fin_cases a
    · exact Fin.ext h0
    · rfl
    · rfl
  have h2 : (x 2).val < 128 := (x 2).isLt
  refine (congrArg v e).trans ((hv _ _ ⟨o + (x 2).val, by omega⟩ rfl).trans ?_)
  unfold block
  have e0 : (⟨(((Rect.unit (s := S8x128x256) ![k.val, 0, o] ![1, 128, 128] inb).emb x) 0).val, Fin.isLt _⟩ : Fin 8) = head k := by
    refine Fin.ext ?_
    show k.val + 1 * (x 0).val = k.val
    omega
  have e1 : (⟨(((Rect.unit (s := S8x128x256) ![k.val, 0, o] ![1, 128, 128] inb).emb x) 1).val, Fin.isLt _⟩ : Fin 128)
      = ⟨(x 1).val, (x 1).isLt⟩ := by
    refine Fin.ext ?_
    show 0 + 1 * (x 1).val = (x 1).val
    omega
  have e2 : (⟨(((Rect.unit (s := S8x128x256) ![k.val, 0, o] ![1, 128, 128] inb).emb x) 2).val, Fin.isLt _⟩ : Fin 256)
      = ⟨o + (x 2).val, by omega⟩ := by
    refine Fin.ext ?_
    show o + 1 * (x 2).val = o + (x 2).val
    omega
  rw [e0, e1, e2]

/-! ## All trips -/

/-- What a store of any trip writes is `block` at the places where it lands. -/
theorem trip_pieces (𝒱 : Variants) (c : Dev nD) (bd : Option 𝒱.V) (i : grid0.Coords) (arg1 : Memref sig .tc .vmem S256x2048 .bf16) (harg1 : arg1.IsWhole)
    (arg2 : Memref sig .tc .vmem S8x2048x256 .bf16) (harg2 : arg2.IsWhole)
    (arg3 : Memref sig .tc .vmem S8x2x128x128 .bf16) (harg3 : arg3.IsWhole)
    (arg4 : Memref sig .tc .vmem S8x128x256 .f32) (harg4 : arg4.IsWhole) (arg5 : Memref sig .tc .vmem S8x128x256 .f32)
    (harg5 : arg5.IsWhole) (arg6 : Memref sig .tc .vmem S8x128x256 .f32) (harg6 : arg6.IsWhole)
    (arg7 : Memref sig .tc .vmem S8x128x256 .f32) (harg7 : arg7.IsWhole)
    (x0 : Vec Ideal S256x2048 .bf16) (x1 : Vec Ideal S8x2048x256 .bf16) (x2 : Vec Ideal S8x2x128x128 .bf16)
    (k : Fin k0_t1_loop.trips) :
    ∀ p ∈ (tripL_k0_t1 (F := Ideal) 𝒱 c bd i arg1 harg1 arg2 harg2 arg3 harg3 arg4 harg4 arg5 harg5 arg6 harg6 arg7 harg7
      (harg1.unread x0) (harg2.unread x1) (harg3.unread x2) k).2.2.2, ∀ x : p.1.shape.Idx, p.2 x = block x0 x1 x2 (p.1.emb x) := by
  dsimp only [tripL_k0_t1]
  unfold trip_k0_t1
  dsimp only
  exact List.forall_mem_cons.mpr
    ⟨place x0 x1 x2 k 128 (offs k).2.2.2.2 (k0_off5_inb k) _ fun n p q hq => second arg1 harg1 arg2 harg2 arg3 harg3 x0 x1 x2 k n p q hq,
      List.forall_mem_singleton.mpr
        (place x0 x1 x2 k 0 (offs k).2.2.2.1 (k0_off4_inb k) _ fun n p q hq => first arg1 harg1 arg2 harg2 arg3 harg3 x0 x1 x2 k n p q
          (hq.trans (Nat.zero_add _)))⟩

theorem pieces (𝒱 : Variants) (c : Dev nD) (bd : Option 𝒱.V) (i : grid0.Coords) (arg1 : Memref sig .tc .vmem S256x2048 .bf16) (harg1 : arg1.IsWhole)
    (arg2 : Memref sig .tc .vmem S8x2048x256 .bf16) (harg2 : arg2.IsWhole)
    (arg3 : Memref sig .tc .vmem S8x2x128x128 .bf16) (harg3 : arg3.IsWhole)
    (arg4 : Memref sig .tc .vmem S8x128x256 .f32) (harg4 : arg4.IsWhole) (arg5 : Memref sig .tc .vmem S8x128x256 .f32)
    (harg5 : arg5.IsWhole) (arg6 : Memref sig .tc .vmem S8x128x256 .f32) (harg6 : arg6.IsWhole)
    (arg7 : Memref sig .tc .vmem S8x128x256 .f32) (harg7 : arg7.IsWhole)
    (x0 : Vec Ideal S256x2048 .bf16) (x1 : Vec Ideal S8x2048x256 .bf16) (x2 : Vec Ideal S8x2x128x128 .bf16) (k : ℕ) :
    k ≤ k0_t1_loop.trips →
    ∀ p ∈ (pb_k0_t1 (F := Ideal) 𝒱 c bd i arg1 harg1 arg2 harg2 arg3 harg3 arg4 harg4 arg5 harg5 arg6 harg6 arg7 harg7
      (harg1.unread x0) (harg2.unread x1) (harg3.unread x2) k).2.2.2, ∀ x : p.1.shape.Idx, p.2 x = block x0 x1 x2 (p.1.emb x) := by
  induction k with
  | zero => intro _ p hp; exact absurd hp List.not_mem_nil
  | succ k ih =>
    intro hk p hp
    rw [pb_k0_t1_succ 𝒱 c bd i arg1 harg1 arg2 harg2 arg3 harg3 arg4 harg4 arg5 harg5 arg6 harg6 arg7 harg7 (harg1.unread x0)
      (harg2.unread x1) (harg3.unread x2) ⟨k, hk⟩] at hp
    rcases List.mem_append.mp hp with hp | hp
    · exact trip_pieces 𝒱 c bd i arg1 harg1 arg2 harg2 arg3 harg3 arg4 harg4 arg5 harg5 arg6 harg6 arg7 harg7 x0 x1 x2 ⟨k, hk⟩ p hp
    · exact ih (Nat.le_of_succ_le hk) p hp

/-- So the loop leaves `block`. -/
theorem out_eq (c : Dev nD) (i : grid0.Coords) (arg1 : Memref sig .tc .vmem S256x2048 .bf16) (harg1 : arg1.IsWhole)
    (arg2 : Memref sig .tc .vmem S8x2048x256 .bf16) (harg2 : arg2.IsWhole)
    (arg3 : Memref sig .tc .vmem S8x2x128x128 .bf16) (harg3 : arg3.IsWhole)
    (arg4 : Memref sig .tc .vmem S8x128x256 .f32) (harg4 : arg4.IsWhole) (arg5 : Memref sig .tc .vmem S8x128x256 .f32)
    (harg5 : arg5.IsWhole) (arg6 : Memref sig .tc .vmem S8x128x256 .f32) (harg6 : arg6.IsWhole)
    (arg7 : Memref sig .tc .vmem S8x128x256 .f32) (harg7 : arg7.IsWhole)
    (x0 : Vec Ideal S256x2048 .bf16) (x1 : Vec Ideal S8x2048x256 .bf16) (x2 : Vec Ideal S8x2x128x128 .bf16) :
    out0_A_6 (F := Ideal) c i arg1 harg1 arg2 harg2 arg3 harg3 arg4 harg4 arg5 harg5 arg6 harg6 arg7 harg7 x0 x1 x2
      = block x0 x1 x2 := by
  funext y
  refine View.read_writes_apply_of_pieces _ _ (block x0 x1 x2) _ ?_ y
    (cover0_A_6 (F := Ideal) c i arg1 harg1 arg2 harg2 arg3 harg3 arg4 harg4 arg5 harg5 arg6 harg6 arg7 harg7 x0 x1 x2 y)
  unfold kernelRun0_A
  exact pieces Variants.none c none i arg1 harg1 arg2 harg2 arg3 harg3 arg4 harg4 arg5 harg5 arg6 harg6 arg7 harg7 x0 x1 x2 _ (le_refl _)

/-! ## All grid points -/

variable (m : (ℓ : Loc nD τ sig) → Buf (Elt Ideal) ℓ)

/-- The kernel's arguments, by their coordinates. -/
def args (c : Dev nD) : Route.In where
  H t j := m ((c : Thread nD τ).loc main_arg0) (ix2 t j)
  W j n := m ((c : Thread nD τ).loc main_arg1) (ix2 j n)
  K h k d := m ((c : Thread nD τ).loc main_arg2) (ix4 h 1 k d)

theorem idx : ∀ t : Fin cfg0.N, win0_0.index t = ![t.val, 0] ∧ win0_1.index t = ![0, 0, 0] ∧ win0_2.index t = ![0, 0, 0, 0]
    ∧ win0_6.index t = ![0, 0, t.val] :=
  (by decide +kernel : ∀ t : Fin grid0.N, _)

/-- Token `p` of grid point `t`'s block. -/
def tok (t : Fin cfg0.N) (p : Fin 256) : Fin 16384 := ⟨t.val * 256 + p.val, by
  have : t.val < 64 := t.isLt
  omega⟩

theorem read_h (c : Dev nD) (t : Fin cfg0.N) (p : Fin 256) (j : Fin 2048) : iblk m c 0 t (ix2 p j) = (args m c).H (tok t p) j := by
  show _ = m ((c : Thread nD τ).loc main_arg0) (ix2 ⟨t.val * 256 + p.val, _⟩ j)
  blk_ext [iblk, V, idx t]

theorem read_w (c : Dev nD) (t : Fin cfg0.N) (h : Fin 8) (j : Fin 2048) (d : Fin 128) :
    iblk m c 1 t (ix3 h j ⟨128 + d.val, by omega⟩) = (args m c).W j (Route.col h d) := by
  show _ = m ((c : Thread nD τ).loc main_arg1) (ix2 j ⟨h.val * 256 + 128 + d.val, _⟩)
  blk_simp [iblk]; entry_read; pointwise; blk_ext [idx t]

theorem read_k (c : Dev nD) (t : Fin cfg0.N) (h : Fin 8) (k d : Fin 128) :
    iblk m c 2 t (ix4 h 1 k d) = (args m c).K h k d := by
  show _ = m ((c : Thread nD τ).loc main_arg2) (ix4 h 1 k d)
  blk_simp [iblk]; entry_read; pointwise; blk_ext [idx t]

theorem score_eq (c : Dev nD) (t : Fin cfg0.N) (h : Fin 8) (k : Fin 128) (p : Fin 256) :
    blockScore (iblk m c 0 t) (iblk m c 1 t) (iblk m c 2 t) h k p = (args m c).score h k (tok t p) := by
  unfold blockScore Route.In.score
  simp only [read_h, read_w, read_k]

/-- The stabilised scores, of every head, key and token. -/
theorem result (c : Dev nD) (h : Fin 8) (k : Fin 128) (i : Fin 16384) :
    (dats m 0 c).arrAt 6 cfg0.N (ix3 h k i) = (args m c).weight h k i := by
  refine congrFun ((dats m 0 c).arrAt_eq_of_covers 6 (fun j : S8x128x16384.Idx => (args m c).weight ⟨(j 0).val, (j 0).isLt⟩
    ⟨(j 1).val, (j 1).isLt⟩ ⟨(j 2).val, (j 2).isLt⟩) (by decide +kernel) fun t hf y => ?_) (ix3 h k i)
  blk_simp
  rw [after0_6]
  unfold outsAt0
  dsimp only
  rw [out_eq]
  have h0 : win0_6.index t 0 = 0 := congrFun (idx t).2.2.2 0
  have h1 : win0_6.index t 1 = 0 := congrFun (idx t).2.2.2 1
  have h2 : win0_6.index t 2 = t.val := congrFun (idx t).2.2.2 2
  unfold block Route.In.weight
  simp only [score_eq]
  refine congr (congrArg Route.stabilised (funext fun n => congr (congrArg (fun a => (args m c).score a n) (Fin.ext ?_))
    (Fin.ext ?_))) (Fin.ext ?_)
  · show (y 0).val = win0_6.index t 0 * 8 + (y 0).val
    omega
  · show t.val * 256 + (y 2).val = win0_6.index t 2 * 256 + (y 2).val
    rw [h2]
  · show (y 1).val = win0_6.index t 1 * 128 + (y 1).val
    omega

end Cert.Kernel4Ideal.Value
-- ==== Proof.Route.Reference.lean ====
module

public import proofs.«01_k».proof.Proof.Gen.Reference4Ideal.Run
public import Idealize.ShloMosaic.Lib.Pipeline.ValueKit
public import proofs.«01_k».proof.Proof.Route.Spec

@[expose] public section

/-!
# What the routing's reference computes
-/

set_option maxRecDepth 16384

noncomputable section

open Idealize.ShloMosaic Idealize.ShloMosaic.TcCoe Idealize.SL.Sem

namespace Cert.Reference4Ideal.Value

open Cert.Reference4Ideal Cert.Reference4Ideal.Gen

/-- The arguments, by their coordinates. -/
def argsOf (x : FVec Ideal S16384x2048 .bf16) (w : FVec Ideal S2048x2048 .f32) (y : FVec Ideal S8x2x128x128 .f32) : Route.In where
  H t j := x (ix2 t j)
  W j n := w (ix2 j n)
  K h k d := y (ix4 h 1 k d)

/-- The scores against the second half of the keys, token by token. -/
def scores (x : FVec Ideal S16384x2048 .bf16) (w : FVec Ideal S2048x2048 .f32) (y : FVec Ideal S8x2x128x128 .f32) :
    FVec Ideal S16384x8x128 .f32 :=
  shapeCast _ (extractStridedSlice S16384x8x1x128 ![0, 0, 1, 0] (transpose S16384x8x2x128 [3, 0, 1, 2]
    (Host.dotGeneral dot_S8x2x128x128_S16384x8x2x128_S8x2x128x16384_3_3_2_0_01_12 none y
      (shapeCast _ (Host.dotGeneral dot_S16384x2048_S2048x2048_S16384x2048_1_0_0_1_n_n none (extf .f32 x bitsLt_bf16_f32) w)
        shapeCasts_S16384x2048_S16384x8x2x128)) transposes_S8x2x128x16384_S16384x8x2x128_3_0_1_2)
    slices_S16384x8x2x128_S16384x8x1x128_0_0_1_0) shapeCasts_S16384x8x1x128_S16384x8x128

theorem scores_read (x : FVec Ideal S16384x2048 .bf16) (w : FVec Ideal S2048x2048 .f32) (y : FVec Ideal S8x2x128x128 .f32)
    (h : Fin 8) (k : Fin 128) (t : Fin 16384) : scores x w y (ix3 t h k) = (argsOf x w y).score h k t := by
  pointwise [scores]
  rfl

/-- Their stabilised exponentials, head by head. -/
def weights (s : FVec Ideal S16384x8x128 .f32) : FVec Ideal S8x128x16384 .f32 :=
  transpose S8x128x16384 [1, 2, 0] (Host.exp (subf s
    (broadcastInDim S16384x8x128 ![0, 1, 2] bcast_S16384x8x1_S16384x8x128_0_1_2
      (broadcastInDim S16384x8x1 ![0, 1] bcast_S16384x8_S16384x8x1_0_1
        (Host.reduce FloatOps.maximumf s (constant S_ .f32 0xFF800000#32) reducesTo_S16384x8x128_S16384x8_d2 h_S_)))))
    transposes_S16384x8x128_S8x128x16384_1_2_0

theorem weights_read (s : FVec Ideal S16384x8x128 .f32) (h : Fin 8) (k : Fin 128) (t : Fin 16384) :
    weights s (ix3 h k t) = Route.stabilised (fun k => s (ix3 t h k)) k := by
  unfold Route.stabilised
  pointwise [weights]

theorem result_read (x : FVec Ideal S16384x2048 .bf16) (w : FVec Ideal S2048x2048 .f32) (y : FVec Ideal S8x2x128x128 .f32)
    (h : Fin 8) (k : Fin 128) (t : Fin 16384) : weights (scores x w y) (ix3 h k t) = (argsOf x w y).weight h k t := by
  rw [weights_read]
  simp only [scores_read]
  rfl

end Cert.Reference4Ideal.Value
-- ==== Proof.Exp.Spec.lean ====
module

public import proofs.«01_k».proof.Proof.Lru.Spec

@[expose] public section

/-!
# The experts: one function of the call's nine arguments

Every token goes through all 16384 single-neuron experts, an expert's gelu weighted by the pairs of keys that chose it.
Both programs are read to the functions here: the kernel block by block, the reference whole.
-/

noncomputable section

open Idealize.ShloMosaic

namespace Cert.Exp

/-- The nine arguments by their coordinates: the tokens' rows, the experts' input and output rows, the first half's
    counts and weights, the second half's ranks and weights (by head, key and token), the residual rows and the gain of
    each batch entry. -/
structure In where
  H : Fin 16384 → Fin 2048 → EReal
  U : Fin 16384 → Fin 2048 → EReal
  V : Fin 16384 → Fin 2048 → EReal
  N : Fin 8 → Fin 128 → Fin 16384 → EReal
  C : Fin 8 → Fin 128 → Fin 16384 → EReal
  R : Fin 8 → Fin 128 → Fin 16384 → EReal
  E : Fin 8 → Fin 128 → Fin 16384 → EReal
  X : Fin 16384 → Fin 2048 → EReal
  G : Fin 4 → Fin 2048 → EReal

/-- One head's weight of a pair of keys: the product where the second key's rank is below the first key's count. -/
def pick (r n e c : EReal) : EReal := if r < n then e * c else 0

/-- A pair's weight over the heads. -/
def weigh (r n e c : Fin 8 → EReal) : EReal := ∑ h, pick (r h) (n h) (e h) (c h)

namespace In

variable (A : In)

/-- The first key and the second key of an expert. -/
def key1 (x : Fin 16384) : Fin 128 := ⟨x.val / 128, by omega⟩
def key2 (x : Fin 16384) : Fin 128 := ⟨x.val % 128, by omega⟩

/-- An expert's weighted gelu at a token. -/
def act (x t : Fin 16384) : EReal :=
  Lru.gelu (∑ k, A.U x k * A.H t k) *
    weigh (fun h => A.R h (key2 x) t) (fun h => A.N h (key1 x) t) (fun h => A.E h (key2 x) t) (fun h => A.C h (key1 x) t)

/-- Token `t`'s result at column `n`. -/
def out (t : Fin 16384) (n : Fin 2048) : EReal :=
  A.X t n + A.G ⟨t.val / 4096, by omega⟩ n * ∑ x, A.act x t * A.V x n

end In

/-! ### Real values -/

/-- A value that is a real number. -/
def IsReal (x : EReal) : Prop := ∃ r : ℝ, x = r

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.zero : IsReal 0 := ⟨0, rfl⟩

theorem IsReal.sum {ι : Type} (s : Finset ι) {f : ι → EReal} (h : ∀ i, IsReal (f i)) : IsReal (∑ i ∈ s, f i) := by
  classical
  induction s using Finset.induction_on with
  | empty => simpa using IsReal.zero
  | insert a s ha ih => rw [Finset.sum_insert ha]; exact (h a).add ih

theorem IsReal.tanh {x : EReal} (hx : IsReal x) : IsReal (Ideal.tanh x) := by
  obtain ⟨a, rfl⟩ := hx
  exact ⟨Real.tanh a, rfl⟩

theorem IsReal.one : IsReal 1 := ⟨1, rfl⟩

theorem half_real : IsReal Lru.half := ⟨1 / 2, by
  simp [Lru.half, Ideal.ofBits, Ideal.ieee, -EReal.coe_mul, -EReal.coe_neg]; norm_num⟩

theorem cubic_real : IsReal Lru.cubic := by
  unfold Lru.cubic Ideal.ofBits Ideal.ieee
  simp [-EReal.coe_mul, -EReal.coe_neg]
  exact ⟨_, rfl⟩

theorem inner_real : IsReal Lru.inner := by
  unfold Lru.inner Ideal.ofBits Ideal.ieee
  simp [-EReal.coe_mul, -EReal.coe_neg]
  exact ⟨_, rfl⟩

theorem IsReal.gelu {y : EReal} (hy : IsReal y) : IsReal (Lru.gelu y) :=
  (half_real.mul hy).mul (IsReal.one.add
    ((inner_real.mul (hy.add (cubic_real.mul ((hy.mul hy).mul hy)))).tanh))

/-- A real factor goes into a sum of real values. -/
theorem mul_sum_real {ι : Type} (s : Finset ι) {g : EReal} (hg : IsReal g) {f : ι → EReal} (h : ∀ i, IsReal (f i)) :
    g * ∑ i ∈ s, f i = ∑ i ∈ s, g * f i := by
  classical
  obtain ⟨a, rfl⟩ := hg
  induction s using Finset.induction_on with
  | empty => simp
  | insert b s hb ih =>
    rw [Finset.sum_insert hb, Finset.sum_insert hb, ← ih]
    obtain ⟨x, hx⟩ := h b
    obtain ⟨y, hy⟩ := IsReal.sum s h
    rw [hx, hy, ← EReal.coe_add, ← EReal.coe_mul, ← EReal.coe_mul, ← EReal.coe_mul, ← EReal.coe_add, mul_add]

/-- The arguments that must be real. -/
structure In.Finite (A : In) : Prop where
  H : ∀ t k, IsReal (A.H t k)
  U : ∀ x k, IsReal (A.U x k)
  V : ∀ x n, IsReal (A.V x n)
  C : ∀ h k t, IsReal (A.C h k t)
  E : ∀ h k t, IsReal (A.E h k t)
  G : ∀ b n, IsReal (A.G b n)

theorem In.Finite.act {A : In} (h : A.Finite) (x t : Fin 16384) : IsReal (A.act x t) := by
  refine (IsReal.gelu (IsReal.sum _ fun k => (h.U x k).mul (h.H t k))).mul (IsReal.sum _ fun k => ?_)
  unfold pick
  split
  · exact (h.E _ _ _).mul (h.C _ _ _)
  · exact IsReal.zero

end Cert.Exp
-- ==== Proof.Exp.Tile.lean ====
module

public import proofs.«01_k».proof.Proof.Gen.Kernel5Ideal.Value
public import Idealize.ShloMosaic.Lib.Pipeline.ValueKit
public import proofs.«01_k».proof.Proof.Exp.Spec

@[expose] public section

/-!
# One tile of the experts' kernel

A grid point takes 1024 experts (8 first keys by 128 second keys) and 512 tokens, and forms the weighted gelus in tiles of
128 by 128: tile `(j, l)` has the experts of first key `j` and the tokens from `128 l` on.
-/

set_option maxRecDepth 16384

noncomputable section

open Idealize.ShloMosaic Idealize.ShloMosaic.TcCoe Idealize.SL.Sem

namespace Cert.Kernel5Ideal.Value

open Cert.Kernel5Ideal Cert.Kernel5Ideal.Gen

/-- A value at every place of a tile. -/
def fill (b : BitVec 32) : FVec Ideal S128x128 .f32 := broadcast S128x128 (FloatOps.ofBits (F := Ideal) .f32 b)

/-- The experts' products with the tokens. -/
def actBlock (x0 : Vec Ideal S512x2048 .bf16) (x1 : Vec Ideal S1024x2048 .bf16) : FVec Ideal S1024x512 .f32 :=
  matmul (φ₁ := .bf16) (φ₂ := .bf16) dot_S1024x2048_S512x2048_S1024x512_1_1_0_0_n_n none (shapeCast (α := Ideal .bf16) S1024x2048 x1 shapeCasts_S1024x2048_S1024x2048) x0
    (constant S1024x512 .f32 0#32)

theorem tile_slices (j : Fin 8) (l : Fin 4) : S1024x512.Slices ![128 * j.val, 128 * l.val] S128x128 := by
  revert j l; decide

def actTile (x0 : Vec Ideal S512x2048 .bf16) (x1 : Vec Ideal S1024x2048 .bf16) (j : Fin 8) (l : Fin 4) : FVec Ideal S128x128 .f32 :=
  extractStridedSlice S128x128 ![128 * j.val, 128 * l.val] (actBlock x0 x1) (tile_slices j l)

theorem row_in (h j : Fin 8) (l : Fin 4) : ∀ a, (![h.val, j.val, 128 * l.val] : Fin 3 → ℕ) a + S1x1x128.size a ≤ S8x8x512.size a := by
  revert h j l; decide

theorem slab_in (h : Fin 8) (l : Fin 4) : ∀ a, (![h.val, 0, 128 * l.val] : Fin 3 → ℕ) a + S1x128x128.size a ≤ S8x128x512.size a := by
  revert h l; decide

/-- One head's row of the first half's tables, repeated down a tile. -/
def row (x : Vec Ideal S8x8x512 .f32) (j : Fin 8) (l : Fin 4) (h : Fin 8) : FVec Ideal S128x128 .f32 :=
  broadcastTo S128x128 (shapeCast S1x128 (View.ld x (Rect.unit (s := S8x8x512) ![h.val, j.val, 128 * l.val] S1x1x128.size (row_in h j l)))
    shapeCasts_S1x1x128_S1x128) broadcasts_S1x128_S128x128

/-- One head's tile of the second half's tables. -/
def slab (x : Vec Ideal S8x128x512 .f32) (l : Fin 4) (h : Fin 8) : FVec Ideal S128x128 .f32 :=
  shapeCast S128x128 (View.ld x (Rect.unit (s := S8x128x512) ![h.val, 0, 128 * l.val] S1x128x128.size (slab_in h l)))
    shapeCasts_S1x128x128_S128x128

/-- One head's weights. -/
def picked (x3 x4 : Vec Ideal S8x8x512 .f32) (x5 x6 : Vec Ideal S8x128x512 .f32) (j : Fin 8) (l : Fin 4) (h : Fin 8) :
    FVec Ideal S128x128 .f32 :=
  select (cmpf .olt (slab x5 l h) (row x3 j l h)) (mulf (slab x6 l h) (row x4 j l h)) (fill 0#32)

/-- The gelu of a tile. -/
def gelued (a : FVec Ideal S128x128 .f32) : FVec Ideal S128x128 .f32 :=
  mulf (mulf (fill 1056964608#32) a) (addf (fill 1065353216#32) (tanh (mulf (fill 1061962282#32)
    (addf a (mulf (fill 1027024659#32) (mulf (mulf a a) a))))))

/-- A tile. -/
def tile (x0 : Vec Ideal S512x2048 .bf16) (x1 : Vec Ideal S1024x2048 .bf16) (x3 x4 : Vec Ideal S8x8x512 .f32)
    (x5 x6 : Vec Ideal S8x128x512 .f32) (j : Fin 8) (l : Fin 4) : FVec Ideal S128x128 .f32 :=
  mulf (gelued (actTile x0 x1 j l)) (addf (addf (addf (addf (addf (addf (addf (addf (fill 0#32) (picked x3 x4 x5 x6 j l 0))
    (picked x3 x4 x5 x6 j l 1)) (picked x3 x4 x5 x6 j l 2)) (picked x3 x4 x5 x6 j l 3)) (picked x3 x4 x5 x6 j l 4))
    (picked x3 x4 x5 x6 j l 5)) (picked x3 x4 x5 x6 j l 6)) (picked x3 x4 x5 x6 j l 7))

/-- The four tiles of a first key, side by side. -/
def part (x0 : Vec Ideal S512x2048 .bf16) (x1 : Vec Ideal S1024x2048 .bf16) (x3 x4 : Vec Ideal S8x8x512 .f32)
    (x5 x6 : Vec Ideal S8x128x512 .f32) (j : Fin 8) : FVec Ideal S128x512 .f32 :=
  concatenate S128x512 1 [⟨S128x128, tile x0 x1 x3 x4 x5 x6 j 0⟩, ⟨S128x128, tile x0 x1 x3 x4 x5 x6 j 1⟩,
    ⟨S128x128, tile x0 x1 x3 x4 x5 x6 j 2⟩, ⟨S128x128, tile x0 x1 x3 x4 x5 x6 j 3⟩]
    concatenates_S128x128_S128x128_S128x128_S128x128_S128x512_d1

/-- The weighted gelus of a grid point's experts and tokens. -/
def parts (x0 : Vec Ideal S512x2048 .bf16) (x1 : Vec Ideal S1024x2048 .bf16) (x3 x4 : Vec Ideal S8x8x512 .f32)
    (x5 x6 : Vec Ideal S8x128x512 .f32) : FVec Ideal S1024x512 .f32 :=
  concatenate S1024x512 0 [⟨S128x512, part x0 x1 x3 x4 x5 x6 0⟩, ⟨S128x512, part x0 x1 x3 x4 x5 x6 1⟩,
    ⟨S128x512, part x0 x1 x3 x4 x5 x6 2⟩, ⟨S128x512, part x0 x1 x3 x4 x5 x6 3⟩, ⟨S128x512, part x0 x1 x3 x4 x5 x6 4⟩,
    ⟨S128x512, part x0 x1 x3 x4 x5 x6 5⟩, ⟨S128x512, part x0 x1 x3 x4 x5 x6 6⟩, ⟨S128x512, part x0 x1 x3 x4 x5 x6 7⟩]
    concatenates_S128x512_S128x512_S128x512_S128x512_S128x512_S128x512_S128x512_S128x512_S1024x512_d0

/-- What a grid point adds to its tokens' results. -/
def added (p : FVec Ideal S1024x512 .f32) (v : Vec Ideal S1024x2048 .bf16) (g : Vec Ideal S1x1x2048 .f32) : FVec Ideal S512x2048 .f32 :=
  mulf (broadcastTo S512x2048 (shapeCast (α := Ideal .f32) S1x2048 g shapeCasts_S1x1x2048_S1x2048) broadcasts_S1x2048_S512x2048)
    (matmul (φ₁ := .bf16) (φ₂ := .bf16) dot_S512x1024_S1024x2048_S512x2048_1_0_0_1_n_n none
      (truncf .bf16 (transpose S512x1024 [1, 0] p transposes_S1024x512_p1_0_S512x1024) bitsLt_bf16_f32)
      (shapeCast (α := Ideal .bf16) S1024x2048 v shapeCasts_S1024x2048_S1024x2048) (constant S512x2048 .f32 0x00000000#32))

variable (c : Dev nD) (i : grid0.Coords)
  (arg2 : Memref sig .tc .vmem S512x2048 .bf16) (harg2 : arg2.IsWhole) (arg3 : Memref sig .tc .vmem S1024x2048 .bf16) (harg3 : arg3.IsWhole)
  (arg4 : Memref sig .tc .vmem S1024x2048 .bf16) (harg4 : arg4.IsWhole) (arg5 : Memref sig .tc .vmem S8x8x512 .f32) (harg5 : arg5.IsWhole)
  (arg6 : Memref sig .tc .vmem S8x8x512 .f32) (harg6 : arg6.IsWhole) (arg7 : Memref sig .tc .vmem S8x128x512 .f32) (harg7 : arg7.IsWhole)
  (arg8 : Memref sig .tc .vmem S8x128x512 .f32) (harg8 : arg8.IsWhole) (arg9 : Memref sig .tc .vmem S512x2048 .f32) (harg9 : arg9.IsWhole)
  (arg10 : Memref sig .tc .vmem S1x1x2048 .f32) (harg10 : arg10.IsWhole) (arg11 : Memref sig .tc .vmem S512x2048 .f32) (harg11 : arg11.IsWhole)
  (x0 : Vec Ideal S512x2048 .bf16) (x1 x2 : Vec Ideal S1024x2048 .bf16) (x3 x4 : Vec Ideal S8x8x512 .f32)
  (x5 x6 : Vec Ideal S8x128x512 .f32) (x7 : Vec Ideal S512x2048 .f32) (x8 : Vec Ideal S1x1x2048 .f32) (x9 : Vec Ideal S512x2048 .f32)

/-- The eight parts as the kernel forms them, put into its last operations. -/
theorem pay_parts {p0 p1 p2 p3 p4 p5 p6 p7 : FVec Ideal S128x512 .f32} {y : Vec Ideal S512x2048 .f32} {g : Vec Ideal S1x1x2048 .f32}
    {v : Vec Ideal S1024x2048 .bf16}
    (h0 : p0 = part x0 x1 x3 x4 x5 x6 0) (h1 : p1 = part x0 x1 x3 x4 x5 x6 1) (h2 : p2 = part x0 x1 x3 x4 x5 x6 2)
    (h3 : p3 = part x0 x1 x3 x4 x5 x6 3) (h4 : p4 = part x0 x1 x3 x4 x5 x6 4) (h5 : p5 = part x0 x1 x3 x4 x5 x6 5)
    (h6 : p6 = part x0 x1 x3 x4 x5 x6 6) (h7 : p7 = part x0 x1 x3 x4 x5 x6 7) :
    k0_pay2 p0 p1 p2 p3 p4 p5 p6 p7 y g v
      = addf (shapeCast (α := Ideal .f32) S512x2048 y shapeCasts_S512x2048_S512x2048) (added (parts x0 x1 x3 x4 x5 x6) v g) := by
  subst h0 h1 h2 h3 h4 h5 h6 h7
  rfl

set_option maxHeartbeats 1000000 in
/-- The first grid point of a block of tokens starts from the residual rows. -/
theorem out_A (hc0 : cond0_0 i) :
    out0_A_9 c i arg2 harg2 arg3 harg3 arg4 harg4 arg5 harg5 arg6 harg6 arg7 harg7 arg8 harg8 arg9 harg9 arg10 harg10
      arg11 harg11 hc0 x0 x1 x2 x3 x4 x5 x6 x7 x8 = addf x7 (added (parts x0 x1 x3 x4 x5 x6) x2 x8) := by
  unfold out0_A_9
  dsimp only
  unfold kernelRun0_A
  dsimp only
  rw [pay_parts x0 x1 x3 x4 x5 x6]
  · frame_out
    pointwise
  all_goals
    frame_out
    open_payloads
    rfl

set_option maxHeartbeats 1000000 in
/-- Every other grid point adds to what the one before left. -/
theorem out_B (hc0 : ¬cond0_0 i) :
    out0_B_9 c i arg2 harg2 arg3 harg3 arg4 harg4 arg5 harg5 arg6 harg6 arg7 harg7 arg8 harg8 arg9 harg9 arg10 harg10
      arg11 harg11 hc0 x0 x1 x2 x3 x4 x5 x6 x7 x8 x9 = addf x9 (added (parts x0 x1 x3 x4 x5 x6) x2 x8) := by
  unfold out0_B_9
  dsimp only
  unfold kernelRun0_B
  dsimp only
  rw [pay_parts x0 x1 x3 x4 x5 x6]
  · frame_out
    pointwise
  all_goals
    frame_out
    open_payloads
    rfl

end Cert.Kernel5Ideal.Value
-- ==== Proof.Exp.Kernel.lean ====
module

public import proofs.«01_k».proof.Proof.Exp.Tile

@[expose] public section

/-!
# What the experts' kernel computes

The tiles read entry by entry, the grid points' additions summed, and the sum over the kernel's blocks of experts brought to
the sum over all experts.
-/

set_option maxRecDepth 16384

noncomputable section

open Idealize.ShloMosaic Idealize.ShloMosaic.TcCoe Idealize.SL.Sem

namespace Cert.Kernel5Ideal.Value

open Cert.Kernel5Ideal Cert.Kernel5Ideal.Gen

variable (x0 : Vec Ideal S512x2048 .bf16) (x1 x2 : Vec Ideal S1024x2048 .bf16) (x3 x4 : Vec Ideal S8x8x512 .f32)
  (x5 x6 : Vec Ideal S8x128x512 .f32)

theorem slab_cast (f : FVec Ideal S1x128x128 .f32) (r s : Fin 128) :
    shapeCast S128x128 f shapeCasts_S1x128x128_S128x128 (ix2 r s) = f (ix3 0 r s) := by
  pointwise

theorem row_cast (f : FVec Ideal S1x1x128 .f32) (r s : Fin 128) :
    broadcastTo S128x128 (shapeCast S1x128 f shapeCasts_S1x1x128_S1x128) broadcasts_S1x128_S128x128 (ix2 r s) = f (ix3 0 0 s) := by
  pointwise

theorem slab_read (x : Vec Ideal S8x128x512 .f32) (l : Fin 4) (h : Fin 8) (r s : Fin 128) :
    slab x l h (ix2 r s) = x (ix3 h r ⟨128 * l.val + s.val, by omega⟩) := by
  unfold slab
  rw [slab_cast]
  show x _ = x _
  blk_ext
  all_goals
    refine (Rect.idx_unit_val _ _ _ _ _).trans ?_
    simp

theorem row_read (x : Vec Ideal S8x8x512 .f32) (j : Fin 8) (l : Fin 4) (h : Fin 8) (r s : Fin 128) :
    row x j l h (ix2 r s) = x (ix3 h j ⟨128 * l.val + s.val, by omega⟩) := by
  unfold row
  rw [row_cast]
  show x _ = x _
  blk_ext
  all_goals
    refine (Rect.idx_unit_val _ _ _ _ _).trans ?_
    simp

theorem picked_read (j : Fin 8) (l : Fin 4) (h : Fin 8) (r s : Fin 128) :
    picked x3 x4 x5 x6 j l h (ix2 r s) = Exp.pick (slab x5 l h (ix2 r s)) (row x3 j l h (ix2 r s)) (slab x6 l h (ix2 r s))
      (row x4 j l h (ix2 r s)) := by
  pointwise [picked, fill, Exp.pick]

theorem gelued_read (a : FVec Ideal S128x128 .f32) (y : S128x128.Idx) : gelued a y = Lru.gelu (a y) := by
  pointwise [gelued, fill, Lru.gelu]
  rfl

theorem act_read (j : Fin 8) (l : Fin 4) (r s : Fin 128) :
    actTile x0 x1 j l (ix2 r s) = ∑ k : Fin 2048, (x1 (ix2 ⟨128 * j.val + r.val, by omega⟩ k) : EReal) * x0 (ix2 ⟨128 * l.val + s.val, by omega⟩ k) := by
  pointwise [actTile, actBlock]

/-- A weighted gelu from the blocks: expert `e` and token `q` of the grid point. -/
def weighted (e : Fin 1024) (q : Fin 512) : EReal :=
  Lru.gelu (∑ k : Fin 2048, (x1 (ix2 e k) : EReal) * x0 (ix2 q k)) *
    Exp.weigh (fun h => x5 (ix3 h ⟨e.val % 128, by omega⟩ q)) (fun h => x3 (ix3 h ⟨e.val / 128, by omega⟩ q))
      (fun h => x6 (ix3 h ⟨e.val % 128, by omega⟩ q)) (fun h => x4 (ix3 h ⟨e.val / 128, by omega⟩ q))

theorem tile_read (j : Fin 8) (l : Fin 4) (r s : Fin 128) (e : Fin 1024) (q : Fin 512) (he : e.val = 128 * j.val + r.val)
    (hq : q.val = 128 * l.val + s.val) : tile x0 x1 x3 x4 x5 x6 j l (ix2 r s) = weighted x0 x1 x3 x4 x5 x6 e q := by
  have hr : (⟨e.val % 128, by omega⟩ : Fin 128) = r := Fin.ext (by show e.val % 128 = _; omega)
  have hj : (⟨e.val / 128, by omega⟩ : Fin 8) = j := Fin.ext (by show e.val / 128 = _; omega)
  have he' : (⟨128 * j.val + r.val, by omega⟩ : Fin 1024) = e := Fin.ext he.symm
  have hq' : (⟨128 * l.val + s.val, by omega⟩ : Fin 512) = q := Fin.ext hq.symm
  unfold weighted Exp.weigh
  rw [Fin.sum_univ_eight, hr, hj]
  pointwise [tile, fill]
  rw [gelued_read, act_read]
  simp only [picked_read, slab_read, row_read, he', hq', zero_add]

theorem part_read (j : Fin 8) (r : Fin 128) (q : Fin 512) :
    part x0 x1 x3 x4 x5 x6 j (ix2 r q) = tile x0 x1 x3 x4 x5 x6 j ⟨q.val / 128, by omega⟩ (ix2 r ⟨q.val % 128, by omega⟩) := by
  unfold part
  exact concatenate_ofFn_apply (t := S128x512) (s₁ := S128x128) 1 (fun l : Fin 4 => tile x0 x1 x3 x4 x5 x6 j l) _ rfl 128 rfl
    (ix2 r q) ⟨q.val / 128, by omega⟩ rfl (ix2 r ⟨q.val % 128, by omega⟩) rfl fun b hb => by
      match b with
      | ⟨0, _⟩ => rfl
      | ⟨1, _⟩ => exact absurd rfl hb

theorem parts_read (e : Fin 1024) (q : Fin 512) : parts x0 x1 x3 x4 x5 x6 (ix2 e q) = weighted x0 x1 x3 x4 x5 x6 e q := by
  have h : parts x0 x1 x3 x4 x5 x6 (ix2 e q) = part x0 x1 x3 x4 x5 x6 ⟨e.val / 128, by omega⟩ (ix2 ⟨e.val % 128, by omega⟩ q) := by
    unfold parts
    exact concatenate_ofFn_apply (t := S1024x512) (s₁ := S128x512) 0 (fun j : Fin 8 => part x0 x1 x3 x4 x5 x6 j) _ rfl 128 rfl
      (ix2 e q) ⟨e.val / 128, by omega⟩ rfl (ix2 ⟨e.val % 128, by omega⟩ q) rfl fun b hb => by
        match b with
        | ⟨0, _⟩ => exact absurd rfl hb
        | ⟨1, _⟩ => rfl
  rw [h, part_read]
  refine tile_read x0 x1 x3 x4 x5 x6 _ _ _ _ e q ?_ ?_
  · show e.val = 128 * (e.val / 128) + e.val % 128
    omega
  · show q.val = 128 * (q.val / 128) + q.val % 128
    omega

theorem added_read (p : FVec Ideal S1024x512 .f32) (v : Vec Ideal S1024x2048 .bf16) (g : Vec Ideal S1x1x2048 .f32)
    (q : Fin 512) (n : Fin 2048) :
    added p v g (ix2 q n) = (g (ix3 0 0 n) : EReal) * ∑ e : Fin 1024, (p (ix2 e q) : EReal) * v (ix2 e n) := by
  pointwise [added]

/-! ### The whole call -/

variable (m : (ℓ : Loc nD τ sig) → Buf (Elt Ideal) ℓ)

/-- The kernel's arguments, by their coordinates. -/
def args (c : Dev nD) : Exp.In where
  H t k := m ((c : Thread nD τ).loc main_arg0) (ix2 t k)
  U t k := m ((c : Thread nD τ).loc main_arg1) (ix2 t k)
  V t k := m ((c : Thread nD τ).loc main_arg2) (ix2 t k)
  N h k t := m ((c : Thread nD τ).loc main_arg3) (ix3 h k t)
  C h k t := m ((c : Thread nD τ).loc main_arg4) (ix3 h k t)
  R h k t := m ((c : Thread nD τ).loc main_arg5) (ix3 h k t)
  E h k t := m ((c : Thread nD τ).loc main_arg6) (ix3 h k t)
  X t k := m ((c : Thread nD τ).loc main_arg7) (ix2 t k)
  G b k := m ((c : Thread nD τ).loc main_arg8) (ix2 b k)

theorem idx : ∀ t : Fin cfg0.N, win0_0.index t = ![t.val / 16, 0] ∧ win0_1.index t = ![t.val % 16, 0]
    ∧ win0_2.index t = ![t.val % 16, 0] ∧ win0_3.index t = ![0, t.val % 16, t.val / 16] ∧ win0_4.index t = ![0, t.val % 16, t.val / 16]
    ∧ win0_5.index t = ![0, 0, t.val / 16] ∧ win0_6.index t = ![0, 0, t.val / 16] ∧ win0_7.index t = ![t.val / 16, 0]
    ∧ win0_8.index t = ![t.val / 128, 0, 0] ∧ win0_9.index t = ![t.val / 16, 0] :=
  (by decide +kernel : ∀ t : Fin grid0.N, _)

theorem lt (t : Fin cfg0.N) : t.val < 512 := t.isLt

/-- Token `q` of grid point `t`'s block. -/
def tok (t : Fin cfg0.N) (q : Fin 512) : Fin 16384 := ⟨t.val / 16 * 512 + q.val, by have := lt t; omega⟩

/-- Expert `e` of grid point `t`'s block. -/
def expert (t : Fin cfg0.N) (e : Fin 1024) : Fin 16384 := ⟨t.val % 16 * 1024 + e.val, by omega⟩

/-- First key `j` of grid point `t`'s block. -/
def first (t : Fin cfg0.N) (j : Fin 8) : Fin 128 := ⟨t.val % 16 * 8 + j.val, by omega⟩

/-- The batch entry of grid point `t`'s tokens. -/
def entry (t : Fin cfg0.N) : Fin 4 := ⟨t.val / 128, by have := lt t; omega⟩

theorem read_h (c : Dev nD) (t : Fin cfg0.N) (q : Fin 512) (k : Fin 2048) : iblk m c 0 t (ix2 q k) = (args m c).H (tok t q) k := by
  show _ = m ((c : Thread nD τ).loc main_arg0) (ix2 ⟨t.val / 16 * 512 + q.val, _⟩ k)
  blk_ext [iblk, V, idx t]

theorem read_u (c : Dev nD) (t : Fin cfg0.N) (e : Fin 1024) (k : Fin 2048) : iblk m c 1 t (ix2 e k) = (args m c).U (expert t e) k := by
  show _ = m ((c : Thread nD τ).loc main_arg1) (ix2 ⟨t.val % 16 * 1024 + e.val, _⟩ k)
  blk_simp [iblk]; entry_read; pointwise; blk_ext [idx t]

theorem read_v (c : Dev nD) (t : Fin cfg0.N) (e : Fin 1024) (k : Fin 2048) : iblk m c 2 t (ix2 e k) = (args m c).V (expert t e) k := by
  show _ = m ((c : Thread nD τ).loc main_arg2) (ix2 ⟨t.val % 16 * 1024 + e.val, _⟩ k)
  blk_simp [iblk]; entry_read; pointwise; blk_ext [idx t]

theorem read_n (c : Dev nD) (t : Fin cfg0.N) (h j : Fin 8) (q : Fin 512) : iblk m c 3 t (ix3 h j q) = (args m c).N h (first t j) (tok t q) := by
  show _ = m ((c : Thread nD τ).loc main_arg3) (ix3 h ⟨t.val % 16 * 8 + j.val, _⟩ ⟨t.val / 16 * 512 + q.val, _⟩)
  blk_ext [iblk, V, idx t]

theorem read_c (c : Dev nD) (t : Fin cfg0.N) (h j : Fin 8) (q : Fin 512) : iblk m c 4 t (ix3 h j q) = (args m c).C h (first t j) (tok t q) := by
  show _ = m ((c : Thread nD τ).loc main_arg4) (ix3 h ⟨t.val % 16 * 8 + j.val, _⟩ ⟨t.val / 16 * 512 + q.val, _⟩)
  blk_ext [iblk, V, idx t]

theorem read_r (c : Dev nD) (t : Fin cfg0.N) (h : Fin 8) (k : Fin 128) (q : Fin 512) : iblk m c 5 t (ix3 h k q) = (args m c).R h k (tok t q) := by
  show _ = m ((c : Thread nD τ).loc main_arg5) (ix3 h k ⟨t.val / 16 * 512 + q.val, _⟩)
  blk_ext [iblk, V, idx t]

theorem read_e (c : Dev nD) (t : Fin cfg0.N) (h : Fin 8) (k : Fin 128) (q : Fin 512) : iblk m c 6 t (ix3 h k q) = (args m c).E h k (tok t q) := by
  show _ = m ((c : Thread nD τ).loc main_arg6) (ix3 h k ⟨t.val / 16 * 512 + q.val, _⟩)
  blk_ext [iblk, V, idx t]

theorem read_x (c : Dev nD) (t : Fin cfg0.N) (q : Fin 512) (n : Fin 2048) : iblk m c 7 t (ix2 q n) = (args m c).X (tok t q) n := by
  show _ = m ((c : Thread nD τ).loc main_arg7) (ix2 ⟨t.val / 16 * 512 + q.val, _⟩ n)
  blk_ext [iblk, V, idx t]

theorem read_g (c : Dev nD) (t : Fin cfg0.N) (n : Fin 2048) : iblk m c 8 t (ix3 0 0 n) = (args m c).G (entry t) n := by
  show _ = m ((c : Thread nD τ).loc main_arg8) (ix2 ⟨t.val / 128, _⟩ n)
  blk_simp [iblk]; entry_read; pointwise; blk_ext [idx t]

theorem expert_key1 (t : Fin cfg0.N) (e : Fin 1024) : Exp.In.key1 (expert t e) = first t ⟨e.val / 128, by omega⟩ :=
  Fin.ext (by show (t.val % 16 * 1024 + e.val) / 128 = t.val % 16 * 8 + e.val / 128; omega)

theorem expert_key2 (t : Fin cfg0.N) (e : Fin 1024) : Exp.In.key2 (expert t e) = ⟨e.val % 128, by omega⟩ :=
  Fin.ext (by show (t.val % 16 * 1024 + e.val) % 128 = e.val % 128; omega)

/-- A grid point's weighted gelus are those of its experts and tokens. -/
theorem weighted_read (c : Dev nD) (t : Fin cfg0.N) (e : Fin 1024) (q : Fin 512) :
    weighted (iblk m c 0 t) (iblk m c 1 t) (iblk m c 3 t) (iblk m c 4 t) (iblk m c 5 t) (iblk m c 6 t) e q
      = (args m c).act (expert t e) (tok t q) := by
  unfold weighted Exp.In.act
  rw [expert_key1, expert_key2]
  simp only [read_h, read_u, read_n, read_c, read_r, read_e]

/-- What grid point `t` adds to the output's block. -/
def step (c : Dev nD) (t : Fin cfg0.N) : FVec Ideal S512x2048 .f32 :=
  added (parts (iblk m c 0 t) (iblk m c 1 t) (iblk m c 3 t) (iblk m c 4 t) (iblk m c 5 t) (iblk m c 6 t)) (iblk m c 2 t) (iblk m c 8 t)

theorem step_read (c : Dev nD) (t : Fin cfg0.N) (q : Fin 512) (n : Fin 2048) :
    step m c t (ix2 q n) = (args m c).G (entry t) n
      * ∑ e : Fin 1024, (args m c).act (expert t e) (tok t q) * (args m c).V (expert t e) n := by
  unfold step
  rw [added_read, read_g]
  simp only [parts_read, weighted_read, read_v]

end Cert.Kernel5Ideal.Value
-- ==== Proof.Exp.Result.lean ====
module

public import proofs.«01_k».proof.Proof.Exp.Kernel

@[expose] public section

/-!
# The experts: the kernel's result

Sixteen grid points in a row write one block of the result: the first starts from the residual rows, each adds its own
experts, and the block is kept after the last.
-/

noncomputable section

open Idealize.ShloMosaic Idealize.ShloMosaic.Pipeline Idealize.ShloMosaic.Host

namespace Cert.Kernel5Ideal.Value

open Cert.Kernel5Ideal Cert.Kernel5Ideal.Gen

variable (m : (ℓ : Loc nD τ sig) → Buf (Elt Ideal) ℓ)

/-- The residual rows of grid point `t`. -/
def residual (c : Dev nD) (t : Fin cfg0.N) : FVec Ideal S512x2048 .f32 := iblk m c 7 t

/-- What grid point `t` brings to the output's block: its step, and the residual rows at the first of a run. -/
def brings (c : Dev nD) (t : Fin cfg0.N) (y : S512x2048.Idx) : EReal :=
  (if t.val % 16 = 0 then residual m c t y else (0 : EReal)) + step m c t y

/-- Grid point `s` of the run of `t`. -/
def inRun (t : Fin cfg0.N) (s : Fin 16) : Fin cfg0.N := ⟨16 * (t.val / 16) + s.val, by
  have := lt t
  show _ < 512
  omega⟩

theorem run_sum (c : Dev nD) (t : Fin cfg0.N) (ht : t.val % 16 = 15) (y : S512x2048.Idx) :
    (outsAt0 m c t.val t.isLt y : EReal) = ∑ s : Fin 16, brings m c (inRun t s) y := by
  refine (eq_sum_fin_of_reset_step_apply_of_flush (M := EReal) (ι := S512x2048.Idx) (fun n hn => outsAt0 m c n hn) 16
    (fun _ => 0) (brings m c) (fun u h y => ?_) (fun u h y => ?_) t ht y).trans (zero_add _)
  · show (outsAt0 m c u.val u.isLt y : EReal) = _
    rw [outsAt0_A m c u h, out_A]
    unfold brings
    rw [if_pos h, zero_add]
    rfl
  · show (outsAt0 m c u.val u.isLt y : EReal) = _
    rw [outsAt0_B m c u h, out_B]
    unfold brings
    rw [if_neg h, zero_add]
    rfl

theorem tok_inRun (t : Fin cfg0.N) (s : Fin 16) (q : Fin 512) : tok (inRun t s) q = tok t q :=
  Fin.ext (by show (16 * (t.val / 16) + s.val) / 16 * 512 + q.val = t.val / 16 * 512 + q.val; omega)

theorem entry_inRun (t : Fin cfg0.N) (s : Fin 16) : entry (inRun t s) = entry t :=
  Fin.ext (by show (16 * (t.val / 16) + s.val) / 128 = t.val / 128; omega)

theorem entry_eq (t : Fin cfg0.N) (q : Fin 512) (h : (tok t q).val / 4096 < 4) : (⟨(tok t q).val / 4096, h⟩ : Fin 4) = entry t :=
  Fin.ext (by show (t.val / 16 * 512 + q.val) / 4096 = t.val / 128; omega)

theorem expert_inRun (t : Fin cfg0.N) (s : Fin 16) (e : Fin 1024) (h : s.val * 1024 + e.val < 16384) :
    expert (inRun t s) e = ⟨s.val * 1024 + e.val, h⟩ :=
  Fin.ext (by show (16 * (t.val / 16) + s.val) % 16 * 1024 + e.val = s.val * 1024 + e.val; omega)

/-- The block kept after the last point of a run. -/
theorem kept (c : Dev nD) (hA : (args m c).Finite) (t : Fin cfg0.N) (ht : t.val % 16 = 15) (q : Fin 512) (n : Fin 2048) :
    (outsAt0 m c t.val t.isLt (ix2 q n) : EReal) = (args m c).out (tok t q) n := by
  rw [run_sum m c t ht]
  unfold brings
  rw [Finset.sum_add_distrib]
  unfold Exp.In.out
  refine congrArg₂ (· + ·) ?_ ?_
  · rw [Finset.sum_eq_single (0 : Fin 16)]
    · rw [if_pos (by show (16 * (t.val / 16) + 0) % 16 = 0; omega), residual, read_x, tok_inRun]
    · intro s _ hs
      have : s.val ≠ 0 := fun h => hs (Fin.ext h)
      exact if_neg (by show ¬(16 * (t.val / 16) + s.val) % 16 = 0; omega)
    · exact fun h => absurd (Finset.mem_univ _) h
  · simp only [step_read, tok_inRun, entry_inRun, entry_eq]
    rw [← Exp.mul_sum_real]
    · refine congrArg _ ?_
      rw [← Fin.sum_mul_add_fin 16 1024 (fun x : Fin 16384 => (args m c).act x (tok t q) * (args m c).V x n) (by decide)]
      refine Finset.sum_congr rfl fun s _ => Finset.sum_congr rfl fun e _ => ?_
      rw [expert_inRun]
    · exact hA.G _ _
    · exact fun s => Exp.IsReal.sum _ fun e => (hA.act _ _).mul (hA.V _ _)

/-- The kernel's result. -/
theorem result (c : Dev nD) (hA : (args m c).Finite) (i : Fin 16384) (n : Fin 2048) :
    (dats m 0 c).arrAt 9 cfg0.N (ix2 i n) = (args m c).out i n := by
  refine congrFun ((dats m 0 c).arrAt_eq_of_covers 9 (fun j : S16384x2048.Idx => (args m c).out ⟨(j 0).val, (j 0).isLt⟩
    ⟨(j 1).val, (j 1).isLt⟩) (by decide +kernel) fun t hf y => ?_) (ix2 i n)
  blk_simp
  rw [after0_9]
  have h0 : win0_9.index t 0 = t.val / 16 := congrFun (idx t).2.2.2.2.2.2.2.2.2 0
  have h1 : win0_9.index t 1 = 0 := congrFun (idx t).2.2.2.2.2.2.2.2.2 1
  obtain ⟨q, k, rfl⟩ : ∃ (q : Fin 512) (k : Fin 2048), y = ix2 q k := ⟨y 0, y 1, by blk_ext⟩
  refine (kept m c hA t ((flush0_9 t).mp hf) q k).trans ?_
  refine congr (congrArg (args m c).out (Fin.ext ?_)) (Fin.ext ?_)
  · show t.val / 16 * 512 + q.val = win0_9.index t 0 * 512 + q.val
    rw [h0]
  · show k.val = win0_9.index t 1 * 2048 + k.val
    omega

end Cert.Kernel5Ideal.Value
-- ==== Proof.Exp.Finite.lean ====
module

public import proofs.«01_k».proof.Defs
public import proofs.«01_k».proof.Proof.Exp.Result
public import proofs.«01_k».proof.Proof.Gen.Pre_experts_finite

@[expose] public section

/-!
# The experts: what the precondition gives

A value whose magnitude is below infinity is a real number, so arguments that pass the masks are finite.
-/

noncomputable section

open Idealize.ShloMosaic Idealize.SL.Sem

namespace Cert.Exp

/-- A value that passes the test is real. -/
theorem real_of_below {x : EReal} (h : Ideal.cmp .olt (FloatOps.absf (F := Ideal) (φ := .f32) x) (Ideal.ofBits .f32 0x7F800000#32) = 1#1) :
    IsReal x := by
  induction x with
  | bot => exfalso; revert h; simp [Ideal.cmp, FloatOps.absf, Ideal.ofBits, Ideal.ieee]
  | coe a => exact ⟨a, rfl⟩
  | top => exfalso; revert h; simp [Ideal.cmp, FloatOps.absf, Ideal.ofBits, Ideal.ieee]

/-- An array that passes the test everywhere is real at every index. -/
theorem real_of_mask {s : Shape} {x : FVec Ideal s .f32} {d : Fin 0 → Fin s.rank} {b : (⟨0, ![]⟩ : Shape).BroadcastsInDim s d}
    (h : cmpf .olt (Host.absf x) (broadcastInDim s d b (constant (F := Ideal) ⟨0, ![]⟩ .f32 0x7F800000#32)) = fun _ => 1#1)
    (i : s.Idx) : IsReal (x i) :=
  real_of_below (congrFun h i)

end Cert.Exp

namespace Cert.Kernel5Ideal.Value

open Cert.Kernel5Ideal Cert.Kernel5Ideal.Gen

/-- The arguments that pass the precondition's masks are finite. -/
theorem args_finite (m : (ℓ : Loc nD τ sig) → Buf (Elt Ideal) ℓ) (h : Cert.Pre_Kernel5Ideal_experts_finite m) (c : Dev nD) :
    (args m c).Finite := by
  obtain ⟨h0, h1, h2, h4, h6, h8⟩ := h c
  exact {
    H := fun t k => Exp.real_of_mask h0 (ix2 t k)
    U := fun x k => Exp.real_of_mask h1 (ix2 x k)
    V := fun x n => Exp.real_of_mask h2 (ix2 x n)
    C := fun i k t => Exp.real_of_mask h4 (ix3 i k t)
    E := fun i k t => Exp.real_of_mask h6 (ix3 i k t)
    G := fun b n => Exp.real_of_mask h8 (ix2 b n) }

end Cert.Kernel5Ideal.Value
-- ==== Proof.Exp.Reference.lean ====
module

public import proofs.«01_k».proof.Proof.Gen.Reference5Ideal.Run
public import Idealize.ShloMosaic.Lib.Pipeline.ValueKit
public import proofs.«01_k».proof.Proof.Exp.Spec

@[expose] public section

/-!
# What the experts' reference computes
-/

set_option maxRecDepth 16384

noncomputable section

open Idealize.ShloMosaic Idealize.ShloMosaic.TcCoe Idealize.SL.Sem

namespace Cert.Reference5Ideal.Value

open Cert.Reference5Ideal Cert.Reference5Ideal.Gen

/-- The arguments, by their coordinates. -/
def argsOf (h : FVec Ideal S16384x2048 .bf16) (u v : FVec Ideal S16384x2048 .f32) (n c r e : FVec Ideal S8x128x16384 .f32)
    (x : FVec Ideal S16384x2048 .f32) (g : FVec Ideal S4x2048 .f32) : Exp.In where
  H t k := h (ix2 t k)
  U t k := u (ix2 t k)
  V t k := v (ix2 t k)
  N p k t := n (ix3 p k t)
  C p k t := c (ix3 p k t)
  R p k t := r (ix3 p k t)
  E p k t := e (ix3 p k t)
  X t k := x (ix2 t k)
  G b k := g (ix2 b k)

/-- A value at every place of a token-by-expert array. -/
def splat (b : BitVec 32) : FVec Ideal S16384x16384 .f32 := broadcastInDim S16384x16384 ![] bcast_S_S16384x16384 (constant S_ .f32 b)

/-- The experts' products with the tokens. -/
def products (h : FVec Ideal S16384x2048 .bf16) (u : FVec Ideal S16384x2048 .f32) : FVec Ideal S16384x16384 .f32 :=
  Host.dotGeneral dot_S16384x2048_S2048x16384_S16384x16384_1_0_0_1_n_n none (extf .f32 h bitsLt_bf16_f32)
    (transpose S2048x16384 [1, 0] u transposes_S16384x2048_S2048x16384_1_0)

/-- The gelu. -/
def gelued (y : FVec Ideal S16384x16384 .f32) : FVec Ideal S16384x16384 .f32 :=
  mulf y (mulf (splat 0x3F000000#32) (addf (splat 0x3F800000#32) (Host.tanh (mulf (splat 0x3F4C422A#32)
    (addf y (mulf (splat 0x3D372713#32) (mulf (mulf y y) y)))))))

theorem products_read (h : FVec Ideal S16384x2048 .bf16) (u : FVec Ideal S16384x2048 .f32) (t x : Fin 16384) :
    products h u (ix2 t x) = ∑ k : Fin 2048, (u (ix2 x k) : EReal) * h (ix2 t k) := by
  pointwise [products]
  exact Finset.sum_congr rfl fun k _ => mul_comm _ _

theorem gelued_read (y : FVec Ideal S16384x16384 .f32) (i : S16384x16384.Idx) : gelued y i = Lru.gelu (y i) := by
  pointwise [gelued, splat]
  unfold Lru.gelu
  rw [mul_comm Lru.half, mul_assoc (y i) Lru.half]
  rfl

/-- The first half's tables, along the pairs of keys. -/
def firsts (a : FVec Ideal S8x128x16384 .f32) : FVec Ideal S8x128x128x16384 .f32 :=
  broadcastInDim S8x128x128x16384 ![0, 1, 2, 3] bcast_S8x128x1x16384_S8x128x128x16384_0_1_2_3
    (broadcastInDim S8x128x1x16384 ![0, 1, 3] bcast_S8x128x16384_S8x128x1x16384_0_1_3 a)

/-- The second half's tables, along the pairs of keys. -/
def seconds (a : FVec Ideal S8x128x16384 .f32) : FVec Ideal S8x128x128x16384 .f32 :=
  broadcastInDim S8x128x128x16384 ![0, 1, 2, 3] bcast_S8x1x128x16384_S8x128x128x16384_0_1_2_3
    (broadcastInDim S8x1x128x16384 ![0, 2, 3] bcast_S8x128x16384_S8x1x128x16384_0_2_3 a)

/-- The pairs' weights, head by head. -/
def pairs (n c r e : FVec Ideal S8x128x16384 .f32) : FVec Ideal S8x128x128x16384 .f32 :=
  select (cmpf .olt (seconds r) (firsts n)) (mulf (firsts c) (seconds e))
    (broadcastInDim S8x128x128x16384 ![] bcast_S_S8x128x128x16384 (constant S_ .f32 0x00000000#32))

/-- The experts' weights at every token. -/
def weights (p : FVec Ideal S8x128x128x16384 .f32) : FVec Ideal S16384x16384 .f32 :=
  transpose S16384x16384 [1, 0] (shapeCast S16384x16384 (Host.reduceAdd p (constant S_ .f32 0x00000000#32)
    reducesTo_S8x128x128x16384_S128x128x16384_d0 h_S_) shapeCasts_S128x128x16384_S16384x16384)
    transposes_S16384x16384_S16384x16384_1_0

/-- The residual sum. -/
def finish (a : FVec Ideal S16384x16384 .f32) (v x : FVec Ideal S16384x2048 .f32) (g : FVec Ideal S4x2048 .f32) : FVec Ideal S16384x2048 .f32 :=
  shapeCast S16384x2048 (addf (shapeCast S4x4096x2048 x shapeCasts_S16384x2048_S4x4096x2048)
    (mulf (broadcastInDim S4x4096x2048 ![0, 1, 2] bcast_S4x1x2048_S4x4096x2048_0_1_2
      (broadcastInDim S4x1x2048 ![0, 2] bcast_S4x2048_S4x1x2048_0_2 g))
      (shapeCast S4x4096x2048 (Host.dotGeneral dot_S16384x16384_S16384x2048_S16384x2048_1_0_0_1_n_n none a v)
        shapeCasts_S16384x2048_S4x4096x2048))) shapeCasts_S4x4096x2048_S16384x2048

theorem pairs_read (n c r e : FVec Ideal S8x128x16384 .f32) (h : Fin 8) (i k : Fin 128) (t : Fin 16384) :
    pairs n c r e (ix4 h i k t) = Exp.pick (r (ix3 h k t)) (n (ix3 h i t)) (e (ix3 h k t)) (c (ix3 h i t)) := by
  unfold Exp.pick
  pointwise [pairs, firsts, seconds]
  rw [mul_comm (c (ix3 h i t))]

theorem weights_read (p : FVec Ideal S8x128x128x16384 .f32) (t x : Fin 16384) :
    weights p (ix2 t x) = ∑ h : Fin 8, p (ix4 h (Exp.In.key1 x) (Exp.In.key2 x) t) := by
  pointwise [weights]
  rfl

theorem finish_read (a : FVec Ideal S16384x16384 .f32) (v x : FVec Ideal S16384x2048 .f32) (g : FVec Ideal S4x2048 .f32)
    (t : Fin 16384) (n : Fin 2048) :
    finish a v x g (ix2 t n) = x (ix2 t n) + g (ix2 ⟨t.val / 4096, by omega⟩ n) * ∑ k : Fin 16384, (a (ix2 t k) : EReal) * v (ix2 k n) := by
  pointwise [finish]

/-- The result at token `t`, column `n`. -/
theorem result_read (h : FVec Ideal S16384x2048 .bf16) (u v : FVec Ideal S16384x2048 .f32) (n c r e : FVec Ideal S8x128x16384 .f32)
    (x : FVec Ideal S16384x2048 .f32) (g : FVec Ideal S4x2048 .f32) (t : Fin 16384) (k : Fin 2048) :
    finish (mulf (gelued (products h u)) (weights (pairs n c r e))) v x g (ix2 t k) = (argsOf h u v n c r e x g).out t k := by
  have e1 : ∀ y, mulf (gelued (products h u)) (weights (pairs n c r e)) (ix2 t y) = (argsOf h u v n c r e x g).act y t := by
    intro y
    show gelued (products h u) (ix2 t y) * weights (pairs n c r e) (ix2 t y) = _
    rw [gelued_read, products_read, weights_read]
    simp only [pairs_read]
    rfl
  rw [finish_read]
  simp only [e1]
  rfl

end Cert.Reference5Ideal.Value
-- ==== Proof.Ada.Spec.lean ====
module

public import proofs.«01_k».proof.Proof.Exp.Spec

@[expose] public section

/-!
# The conditioning vector: one function of three arguments

Rows through `x / (1 + exp (-x))`, times a matrix, plus a row.
-/

noncomputable section

open Idealize.ShloMosaic

namespace Cert.Ada

open Cert.Exp (IsReal)

/-- `x` times its logistic. -/
def silu (x : EReal) : EReal := x * Ideal.div 1 (1 + Ideal.exp (-x))

/-- It is real wherever `x` is not plus infinity: at minus infinity it is zero. -/
theorem silu_real {x : EReal} (h : x < ⊤) : IsReal (silu x) := by
  induction x with
  | bot =>
    have e : (1 : EReal) + Ideal.exp (-⊥) = ⊤ := by
      rw [EReal.neg_bot]
      exact EReal.add_top_of_ne_bot (by decide)
    refine ⟨0, ?_⟩
    unfold silu Ideal.div
    rw [e, if_neg (by decide)]
    simp
  | coe a =>
    have hpos : (0 : ℝ) < 1 + Real.exp (-a) := by positivity
    have e : (1 : EReal) + Ideal.exp (-(a : EReal)) = ((1 + Real.exp (-a) : ℝ) : EReal) := by
      rw [← EReal.coe_neg, EReal.coe_add]
      rfl
    refine ⟨a * (1 * (1 + Real.exp (-a))⁻¹), ?_⟩
    unfold silu Ideal.div
    rw [e, if_neg (by exact_mod_cast hpos.ne'), ← EReal.coe_inv, ← EReal.coe_one, ← EReal.coe_mul, ← EReal.coe_mul]
  | top => exact absurd h (lt_irrefl _)

/-- The arguments by their coordinates: the rows, the matrix, the row that is added. -/
structure In where
  C : Fin 8 → Fin 2048 → EReal
  W : Fin 2048 → Fin 12288 → EReal
  B : Fin 12288 → EReal

/-- The result of row `i` at column `n`. -/
def In.out (A : In) (i : Fin 8) (n : Fin 12288) : EReal := ∑ k, silu (A.C i k) * A.W k n + A.B n

/-- The arguments for which the two programs agree. -/
structure In.Finite (A : In) : Prop where
  C : ∀ i k, A.C i k < ⊤
  W : ∀ k n, IsReal (A.W k n)

theorem sub_self_real {x : EReal} (h : IsReal x) : x - x = 0 := by
  obtain ⟨a, rfl⟩ := h
  rw [← EReal.coe_sub, sub_self, EReal.coe_zero]

/-- A product with both factors split into themselves and a remainder: of real factors the remainders are zero. -/
theorem split_sum (f g : Fin 2048 → EReal) (hf : ∀ k, IsReal (f k)) (hg : ∀ k, IsReal (g k)) :
    ∑ k, f k * g k + (∑ k, f k * (g k - g k) + ∑ k, (f k - f k) * g k) = ∑ k, f k * g k := by
  simp only [sub_self_real (hf _), sub_self_real (hg _), mul_zero, zero_mul, Finset.sum_const_zero, add_zero]

end Cert.Ada
-- ==== Proof.Ada.Kernel.lean ====
module

public import proofs.«01_k».proof.Proof.Gen.Kernel6Ideal.Value
public import Idealize.ShloMosaic.Lib.Pipeline.ValueKit
public import proofs.«01_k».proof.Proof.Ada.Spec

@[expose] public section

/-!
# What the conditioning vector's kernel computes

A grid point multiplies the rows by 1024 columns of the matrix, each factor split into its bfloat16 part and the remainder.
-/

set_option maxRecDepth 16384

noncomputable section

open Idealize.ShloMosaic Idealize.ShloMosaic.TcCoe Idealize.SL.Sem

namespace Cert.Kernel6Ideal.Value

open Cert.Kernel6Ideal Cert.Kernel6Ideal.Gen

variable (m : (ℓ : Loc nD τ sig) → Buf (Elt Ideal) ℓ)

/-- The kernel's arguments, by their coordinates. -/
def args (c : Dev nD) : Ada.In where
  C i k := m ((c : Thread nD τ).loc main_arg0) (ix2 i k)
  W k n := m ((c : Thread nD τ).loc main_arg1) (ix2 k n)
  B n := m ((c : Thread nD τ).loc main_arg2) (ix1 n)

theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- Column `n` of grid point `t`'s block. -/
def col (t : Fin cfg0.N) (n : Fin 1024) : Fin 12288 := ⟨t.val * 1024 + n.val, by
  have : t.val < 12 := t.isLt
  omega⟩

theorem read_c (c : Dev nD) (t : Fin cfg0.N) (i : Fin 8) (k : Fin 2048) : iblk m c 0 t (ix2 i k) = (args m c).C i k := by
  show _ = m ((c : Thread nD τ).loc main_arg0) (ix2 i k)
  blk_ext [iblk, V, idx t]

theorem read_w (c : Dev nD) (t : Fin cfg0.N) (k : Fin 2048) (n : Fin 1024) : iblk m c 1 t (ix2 k n) = (args m c).W k (col t n) := by
  show _ = m ((c : Thread nD τ).loc main_arg1) (ix2 k ⟨t.val * 1024 + n.val, _⟩)
  blk_ext [iblk, V, idx t]

theorem read_b (c : Dev nD) (t : Fin cfg0.N) (n : Fin 1024) : iblk m c 2 t (ix2 0 n) = (args m c).B (col t n) := by
  show _ = m ((c : Thread nD τ).loc main_arg2) (ix1 ⟨t.val * 1024 + n.val, _⟩)
  blk_simp [iblk]; entry_read; pointwise; blk_ext [idx t]

/-- A block of the result. -/
theorem block_read (x0 : Vec Ideal S8x2048 .f32) (x1 : Vec Ideal S2048x1024 .f32) (x2 : Vec Ideal S1x1024 .f32) (i : Fin 8)
    (n : Fin 1024) : out0_3 x0 x1 x2 (ix2 i n)
      = (∑ k : Fin 2048, Ada.silu (x0 (ix2 i k)) * x1 (ix2 k n)
          + (∑ k : Fin 2048, Ada.silu (x0 (ix2 i k)) * ((x1 (ix2 k n) : EReal) - x1 (ix2 k n))
            + ∑ k : Fin 2048, (Ada.silu (x0 (ix2 i k)) - Ada.silu (x0 (ix2 i k))) * x1 (ix2 k n))) + x2 (ix2 0 n) := by
  unfold Ada.silu
  simp only [← zero_sub]
  frame_out
  open_payloads
  pointwise

/-- The kernel's result. -/
theorem result (c : Dev nD) (hA : (args m c).Finite) (i : Fin 8) (n : Fin 12288) :
    (dats m 0 c).arrAt 3 cfg0.N (ix2 i n) = (args m c).out i n := by
  refine congrFun ((dats m 0 c).arrAt_eq_of_covers 3 (fun j : S8x12288.Idx => (args m c).out ⟨(j 0).val, (j 0).isLt⟩
    ⟨(j 1).val, (j 1).isLt⟩) (by decide +kernel) fun t hf y => ?_) (ix2 i n)
  blk_simp
  rw [after0_3]
  obtain ⟨q, k, rfl⟩ : ∃ (q : Fin 8) (k : Fin 1024), y = ix2 q k := ⟨y 0, y 1, by blk_ext⟩
  refine (block_read _ _ _ q k).trans ?_
  simp only [read_c, read_w, read_b]
  rw [Ada.split_sum (fun j => Ada.silu ((args m c).C q j)) (fun j => (args m c).W j (col t k)) (fun j => Ada.silu_real (hA.C _ _))
    (fun j => hA.W _ _)]
  have h0 : win0_3.index t 0 = 0 := congrFun (idx t).2.2.2 0
  have h1 : win0_3.index t 1 = t.val := congrFun (idx t).2.2.2 1
  show (args m c).out q (col t k) = _
  refine congr (congrArg (args m c).out (Fin.ext ?_)) (Fin.ext ?_)
  · show q.val = win0_3.index t 0 * 8 + q.val
    omega
  · show t.val * 1024 + k.val = win0_3.index t 1 * 1024 + k.val
    rw [h1]

end Cert.Kernel6Ideal.Value
-- ==== Proof.Ada.Finite.lean ====
module

public import proofs.«01_k».proof.Defs
public import proofs.«01_k».proof.Proof.Exp.Finite
public import proofs.«01_k».proof.Proof.Ada.Kernel
public import proofs.«01_k».proof.Proof.Gen.Pre_conditioning_finite

@[expose] public section

/-!
# The conditioning vector: what the precondition gives
-/

noncomputable section

open Idealize.ShloMosaic Idealize.SL.Sem

namespace Cert.Ada

/-- A value below the word of infinity is below infinity. -/
theorem below {x : EReal} (h : Ideal.cmp .olt x (Ideal.ofBits .f32 0x7F800000#32) = 1#1) : x < ⊤ := by
  refine lt_top_iff_ne_top.mpr fun e => ?_
  subst e
  revert h
  simp [Ideal.cmp, Ideal.ofBits, Ideal.ieee]

/-- An array that is below infinity everywhere is so at every index. -/
theorem below_of_mask {s : Shape} {x : FVec Ideal s .f32} {d : Fin 0 → Fin s.rank} {b : (⟨0, ![]⟩ : Shape).BroadcastsInDim s d}
    (h : cmpf .olt x (broadcastInDim s d b (constant (F := Ideal) ⟨0, ![]⟩ .f32 0x7F800000#32)) = fun _ => 1#1) (i : s.Idx) :
    (x i : EReal) < ⊤ :=
  below (congrFun h i)

end Cert.Ada

namespace Cert.Kernel6Ideal.Value

open Cert.Kernel6Ideal Cert.Kernel6Ideal.Gen

/-- The arguments that pass the precondition's masks. -/
theorem args_finite (m : (ℓ : Loc nD τ sig) → Buf (Elt Ideal) ℓ) (h : Cert.Pre_Kernel6Ideal_conditioning_finite m) (c : Dev nD) :
    (args m c).Finite := by
  obtain ⟨h0, h1⟩ := h c
  exact {
    C := fun i k => Ada.below_of_mask h0 (ix2 i k)
    W := fun k n => Exp.real_of_mask h1 (ix2 k n) }

end Cert.Kernel6Ideal.Value
-- ==== Proof.Ada.Reference.lean ====
module

public import proofs.«01_k».proof.Proof.Gen.Reference6Ideal.Run
public import Idealize.ShloMosaic.Lib.Pipeline.ValueKit
public import proofs.«01_k».proof.Proof.Ada.Spec

@[expose] public section

/-!
# What the conditioning vector's reference computes
-/

set_option maxRecDepth 16384

noncomputable section

open Idealize.ShloMosaic Idealize.ShloMosaic.TcCoe Idealize.SL.Sem

namespace Cert.Reference6Ideal.Value

open Cert.Reference6Ideal Cert.Reference6Ideal.Gen

variable (c : FVec Ideal S8x2048 .f32) (w : FVec Ideal S2048x12288 .f32) (b : FVec Ideal S12288 .f32)

/-- The arguments, by their coordinates. -/
def argsOf : Ada.In where
  C i k := c (ix2 i k)
  W k n := w (ix2 k n)
  B n := b (ix1 n)

/-- The rows through the first function, and the product with the added row. -/
def gated : FVec Ideal S8x2048 .f32 :=
  mulf c (Host.divf (broadcastInDim S8x2048 ![] bcast_S_S8x2048 (constant S_ .f32 0x3F800000#32))
    (addf (broadcastInDim S8x2048 ![] bcast_S_S8x2048 (constant S_ .f32 0x3F800000#32)) (Host.exp (Host.negf c))))
def whole (s : FVec Ideal S8x2048 .f32) : FVec Ideal S8x12288 .f32 :=
  addf (Host.dotGeneral dot_S8x2048_S2048x12288_S8x12288_1_0_0_1_n_n none s w)
    (broadcastInDim S8x12288 ![0, 1] bcast_S1x12288_S8x12288_0_1 (broadcastInDim S1x12288 ![1] bcast_S12288_S1x12288_1 b))

theorem gated_read (i : Fin 8) (k : Fin 2048) : gated c (ix2 i k) = Ada.silu (c (ix2 i k)) := by
  unfold Ada.silu
  pointwise [gated]

theorem result_read (i : Fin 8) (n : Fin 12288) : whole w b (gated c) (ix2 i n) = (argsOf c w b).out i n := by
  pointwise [whole]
  simp only [gated_read]
  rfl

end Cert.Reference6Ideal.Value
-- ==== Proof.lean ====
module

public import proofs.«01_k».proof.Defs
public import proofs.«01_k».proof.Proof.Gen.Kernel.Frame
public import proofs.«01_k».proof.Proof.Lru.KernelValue
public import proofs.«01_k».proof.Proof.Lru.RefValue
public import proofs.«01_k».proof.Proof.Gen.Kernel2.Frame
public import proofs.«01_k».proof.Proof.Gen.Kernel3.Frame
public import proofs.«01_k».proof.Proof.Proj.InKernel
public import proofs.«01_k».proof.Proof.Proj.InReference
public import proofs.«01_k».proof.Proof.Proj.OutKernel
public import proofs.«01_k».proof.Proof.Proj.OutReference
public import proofs.«01_k».proof.Proof.Gen.Kernel4.Frame
public import proofs.«01_k».proof.Proof.Route.Kernel
public import proofs.«01_k».proof.Proof.Route.Reference
public import proofs.«01_k».proof.Proof.Gen.Pre_experts_finite
public import proofs.«01_k».proof.Proof.Gen.Reference5Ideal.Run
public import proofs.«01_k».proof.Proof.Gen.Kernel5.Frame
public import proofs.«01_k».proof.Proof.Gen.Kernel5Ideal.Value
public import proofs.«01_k».proof.Proof.Exp.Finite
public import proofs.«01_k».proof.Proof.Exp.Reference
public import proofs.«01_k».proof.Proof.Gen.Pre_conditioning_finite
public import proofs.«01_k».proof.Proof.Gen.Reference6Ideal.Run
public import proofs.«01_k».proof.Proof.Gen.Kernel6.Frame
public import proofs.«01_k».proof.Proof.Gen.Kernel6Ideal.Value
public import proofs.«01_k».proof.Proof.Ada.Finite
public import proofs.«01_k».proof.Proof.Ada.Reference
public import Idealize.ShloMosaic.Adequacy
public import Idealize.ShloMosaic.Init
public import Idealize.ShloMosaic.Lib.Quiescent

@[expose] public section

/-!
# The claims

The frames, the idealisation's rewriting and the equality of the kernel's and the reference's results, put together.
-/

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The recurrence: both programs' results are the same function of the arguments, element by element. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  have e : Cert.ReferenceIdeal.Value.args m' c = Cert.KernelIdeal.Value.args m c := by
    unfold Cert.ReferenceIdeal.Value.args
    simp only [hagree c]
    rfl
  refine funext fun (i : Cert.KernelIdeal.S16384x1024.Idx) => ?_
  rw [eq_ix2 i]
  exact (Cert.ReferenceIdeal.Value.result m' c (i 0) (i 1)).trans
    ((congrArg (fun A => Lru.Args.out A _ _ _) e).trans (Cert.KernelIdeal.Value.result m c (i 0) (i 1)).symm)

theorem quiescent_Reference2Ideal : quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

/-- The input projection: the four results are the same ranges of columns of one product. -/
theorem algebraic_Kernel2Ideal_Reference2Ideal : algebraic_Kernel2Ideal_Reference2Ideal := by
  intro m ρ m' ρ' _ hagree
  refine ⟨_, _, _, _, Cert.Kernel2Ideal.Value.run_blocks (F := Ideal) m ρ, ?_⟩
  refine (θ_run Cert.Reference2Ideal.defs _ _).mono (fun _ h c => ⟨?_, ?_, ?_, ?_, (h c).2.2.2.2⟩)
    (Cert.Reference2Ideal.Value.run (F := Ideal) m' ρ')
  all_goals obtain ⟨a0, a1, a2, a3, a4⟩ := hagree c
  · rw [(h c).1, a0, a1, a2, a3, a4]
    refine funext fun (i : Cert.Kernel2Ideal.S16384x1024.Idx) => ?_
    rw [eq_ix2 i]
    exact (Cert.Reference2Ideal.Value.wide _ _ _ _ _ 0 _ (i 0) (i 1) _ (Nat.zero_add _).symm).trans
      (Cert.Kernel2Ideal.Value.result5 m c (i 0) (i 1)).symm
  · rw [(h c).2.1, a0, a1, a2, a3, a4]
    refine funext fun (i : Cert.Kernel2Ideal.S16384x1024.Idx) => ?_
    rw [eq_ix2 i]
    exact (Cert.Reference2Ideal.Value.wide _ _ _ _ _ 1024 _ (i 0) (i 1) _ rfl).trans
      (Cert.Kernel2Ideal.Value.result6 m c (i 0) (i 1)).symm
  · rw [(h c).2.2.1, a0, a1, a2, a3, a4]
    refine funext fun (i : Cert.Kernel2Ideal.S16384x1024.Idx) => ?_
    rw [eq_ix2 i]
    exact (Cert.Reference2Ideal.Value.wide _ _ _ _ _ 2048 _ (i 0) (i 1) _ rfl).trans
      (Cert.Kernel2Ideal.Value.result7 m c (i 0) (i 1)).symm
  · rw [(h c).2.2.2.1, a0, a1, a2, a3, a4]
    refine funext fun (i : Cert.Kernel2Ideal.S16384x256.Idx) => ?_
    rw [eq_ix2 i]
    exact (Cert.Reference2Ideal.Value.narrow _ _ _ _ _ 3072 _ (i 0) (i 1) _ rfl).trans
      (Cert.Kernel2Ideal.Value.result8 m c (i 0) (i 1)).symm

theorem quiescent_Reference3Ideal : quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The output projection: the residual stream, and its normalised rows. -/
theorem algebraic_Kernel3Ideal_Reference3Ideal : algebraic_Kernel3Ideal_Reference3Ideal := by
  intro m ρ m' ρ' _ hagree
  refine ⟨_, _, Cert.Kernel3Ideal.Value.run_blocks (F := Ideal) m ρ, ?_⟩
  refine (θ_run Cert.Reference3Ideal.defs _ _).mono (fun _ h c => ⟨?_, ?_, (h c).2.2⟩)
    (Cert.Reference3Ideal.Value.run (F := Ideal) m' ρ')
  all_goals obtain ⟨a0, a1, a2, a3, a4, a5, a6, a7⟩ := hagree c
  · rw [(h c).1, a0, a1, a2, a3, a4]
    refine funext fun (i : Cert.Kernel3Ideal.S16384x2048.Idx) => ?_
    rw [eq_ix2 i]
    exact (Cert.Reference3Ideal.Value.first _ _ _ _ _ (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (i 0) (i 1)).trans
      (Cert.Kernel3Ideal.Value.result8 m c (i 0) (i 1)).symm
  · rw [(h c).2.1, a0, a1, a2, a3, a4, a5, a6, a7]
    refine funext fun (i : Cert.Kernel3Ideal.S16384x2048.Idx) => ?_
    rw [eq_ix2 i]
    exact (Cert.Reference3Ideal.Value.second _ _ _ _ _ _ _ _ (i 0) (i 1)).trans
      (Cert.Kernel3Ideal.Value.result9 m c (i 0) (i 1)).symm

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The routing: the stabilised scores against the second half of the keys. -/
theorem algebraic_Kernel4Ideal_Reference4Ideal : algebraic_Kernel4Ideal_Reference4Ideal := by
  intro m ρ m' ρ' _ hagree
  refine ⟨_, (θ_run Cert.Kernel4Ideal.defs _ _).mono (fun _ h c => (h c).2.2.2) (Cert.Kernel4Ideal.Value.run_blocks (F := Ideal) m ρ), ?_⟩
  refine (θ_run Cert.Reference4Ideal.defs _ _).mono (fun _ h c => ⟨?_, (h c).2⟩) (Cert.Reference4Ideal.Value.run (F := Ideal) m' ρ')
  obtain ⟨a0, a1, a2⟩ := hagree c
  rw [(h c).1, a0, a1, a2]
  refine funext fun (i : Cert.Kernel4Ideal.S8x128x16384.Idx) => ?_
  rw [eq_ix3 i]
  exact (Cert.Reference4Ideal.Value.result_read _ _ _ (i 0) (i 1) (i 2)).trans
    (Cert.Kernel4Ideal.Value.result m c (i 0) (i 1) (i 2)).symm

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The experts: of finite arguments, the kernel's sum by blocks of experts is the reference's sum over all. -/
theorem algebraic_Kernel5Ideal_Reference5Ideal :
    algebraic_Kernel5Ideal_Reference5Ideal_pre_experts_finite := by
  intro m ρ m' ρ' hpre hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  obtain ⟨a0, a1, a2, a3, a4, a5, a6, a7, a8⟩ := hagree c
  rw [(h c).1, a0, a1, a2, a3, a4, a5, a6, a7, a8]
  refine funext fun (i : Cert.Kernel5Ideal.S16384x2048.Idx) => ?_
  rw [eq_ix2 i]
  exact (Cert.Reference5Ideal.Value.result_read _ _ _ _ _ _ _ _ _ (i 0) (i 1)).trans
    (Cert.Kernel5Ideal.Value.result m c (Cert.Kernel5Ideal.Value.args_finite m hpre c) (i 0) (i 1)).symm

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The conditioning vector: of rows below infinity and a finite matrix, the kernel's split product is the product. -/
theorem algebraic_Kernel6Ideal_Reference6Ideal :
    algebraic_Kernel6Ideal_Reference6Ideal_pre_conditioning_finite := by
  intro m ρ m' ρ' hpre hagree
  refine ⟨_, Cert.Kernel6Ideal.Value.run_blocks (F := Ideal) m ρ, ?_⟩
  refine (θ_run Cert.Reference6Ideal.defs _ _).mono (fun _ h c => ⟨?_, (h c).2⟩) (Cert.Reference6Ideal.Value.run (F := Ideal) m' ρ')
  obtain ⟨a0, a1, a2⟩ := hagree c
  rw [(h c).1, a0, a1, a2]
  refine funext fun (i : Cert.Kernel6Ideal.S8x12288.Idx) => ?_
  rw [eq_ix2 i]
  exact (Cert.Reference6Ideal.Value.result_read _ _ _ (i 0) (i 1)).trans
    (Cert.Kernel6Ideal.Value.result m c (Cert.Kernel6Ideal.Value.args_finite m hpre c) (i 0) (i 1)).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_experts_finite.Gen.facts, Cert.Pre_conditioning_finite.Gen.facts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ,
  fun m ρ _ => Cert.Kernel5Ideal.Gen.frame m ρ, quiescent_Reference5Ideal, fun m ρ _ => quiescent_Reference5Ideal m ρ trivial,
  fun m ρ _ => Cert.Kernel6.Gen.frame m ρ, fun m ρ _ => Cert.Kernel6Ideal.Gen.frame m ρ,
  fun m ρ _ => Cert.Kernel6Ideal.Gen.frame m ρ, quiescent_Reference6Ideal, fun m ρ _ => quiescent_Reference6Ideal m ρ trivial,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal,
  (trivial : preserves_Kernel5_Kernel5Ideal), algebraic_Kernel5Ideal_Reference5Ideal,
  (trivial : preserves_Kernel6_Kernel6Ideal), algebraic_Kernel6Ideal_Reference6Ideal⟩

end Cert.Proof

end
